-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![512, 512]⟩ ⟨2, ![1024, 512]⟩ (Layout.meshBlock [2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x512 : Shape := ⟨2, ![512, 512]⟩
abbrev S1024x512 : Shape := ⟨2, ![1024, 512]⟩
abbrev S2 : Shape := ⟨1, ![2]⟩
abbrev S_ : Shape := ⟨0, ![]⟩
abbrev S1 : Shape := ⟨1, ![1]⟩
abbrev S256x512 : Shape := ⟨2, ![256, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .bf16⟩
  | .hbm, ⟨1, _⟩ => ⟨S1024x512, .bf16⟩
  | .local _ .vmem, ⟨0, _⟩ => ⟨S512x512, .bf16⟩
  | .local _ .vmem, ⟨1, _⟩ => ⟨S1024x512, .bf16⟩
  | _, _ => ⟨S512x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6 : BitVec 32 := 2#32
  let v10 : BitVec 32 := Scalar.muli v2 c2_i32_6
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7 : BitVec 32 := 1#32
  let v12 : BitVec 32 := Scalar.muli v6 c1_i32_7
  let v13 : BitVec 32 := Scalar.addi v11 v12
  v13.toNat
def k0_dev2 (d0 : Dev nD) : Nat :=
  let c0_i32_10 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_9 : BitVec 32 := 2#32
  let v14 : BitVec 32 := Scalar.muli v7 c2_i32_9
  let v15 : BitVec 32 := Scalar.addi c0_i32_10 v14
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1_i32_11 : BitVec 32 := 1#32
  let v16 : BitVec 32 := Scalar.muli v8 c1_i32_11
  let v17 : BitVec 32 := Scalar.addi v15 v16
  v17.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v18 : BitVec 32 := Scalar.muli v5 c512_i32
  let v21 : Index := Scalar.indexCast v18
  let c0_14 : Index := 0#32
  ![v21.toNat, 0]
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v18 : BitVec 32 := Scalar.muli v5 c512_i32
  let c0_i32_21 : BitVec 32 := 0#32
  ![v18.toNat, 0]
def k0_dev3 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v25 : BitVec 32 := Scalar.muli v2 c2_i32_18
  let v26 : BitVec 32 := Scalar.addi c0_i32_19 v25
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v27 : BitVec 32 := Scalar.muli v6 c1_i32_20
  let v28 : BitVec 32 := Scalar.addi v26 v27
  v28.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v18 : BitVec 32 := Scalar.muli v5 c512_i32
  let c256_i32_15 : BitVec 32 := 256#32
  let v24 : BitVec 32 := Scalar.addi v18 c256_i32_15
  let c0_i32_28 : BitVec 32 := 0#32
  ![v24.toNat, 0]
def k0_dev4 (d0 : Dev nD) : Nat :=
  let c0_i32_26 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_25 : BitVec 32 := 2#32
  let v35 : BitVec 32 := Scalar.muli v7 c2_i32_25
  let v36 : BitVec 32 := Scalar.addi c0_i32_26 v35
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1_i32_27 : BitVec 32 := 1#32
  let v37 : BitVec 32 := Scalar.muli v8 c1_i32_27
  let v38 : BitVec 32 := Scalar.addi v36 v37
  v38.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdealRegions.lean ====
/-
The mesh, the rows and the contents of the bidirectional all-gather.

Four devices form a 2 × 2 mesh; device `c` stands at row `c / 2` and column `c % 2` and holds the block of 512 rows
number `c % 2` of the global array. Each device exchanges with two PEERS, both in the other column: the NEAR one in its
own mesh row, the FAR one in the other mesh row. Everything that comes in a near and a far copy is indexed by a `Bool`:
`false` is near, `true` is far. A device sends the first half of its block to its near peer and the second half to its
far peer, each half to the very rows of the result it lies at in the sender's own result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL.Sem

variable {F : FTy → Type} [FloatOps F]

/-! ## Peers -/

/-- Device `c`'s near peer (`false`: same mesh row, other column) or far peer (`true`: other row, other column). -/
def peer : Bool → Dev nD → Dev nD
  | false, c => ⟨k0_dev1 c, k0_dev1_lt c⟩
  | true, c => ⟨k0_dev2 c, k0_dev2_lt c⟩

theorem peer_near_val (c : Dev nD) : (peer false c).val = 2 * (c.val / 2) + 1 - c.val % 2 := k0_dev1_eq c
theorem peer_far_val (c : Dev nD) : (peer true c).val = 3 - (2 * (c.val / 2) + c.val % 2) := k0_dev2_eq c

/-- The relation is mutual: a device is its peer's peer, on the same side. -/
theorem peer_peer (b : Bool) (c : Dev nD) : peer b (peer b c) = c := by
  have hc : c.val < 4 := c.isLt
  cases b
  · refine Fin.ext ?_; rw [peer_near_val, peer_near_val]; omega
  · refine Fin.ext ?_; rw [peer_far_val, peer_far_val]; omega

/-- Both peers stand in the other column. -/
theorem peer_col (b : Bool) (c : Dev nD) : (peer b c).val % 2 = 1 - c.val % 2 := by
  have hc : c.val < 4 := c.isLt
  cases b
  · rw [peer_near_val]; omega
  · rw [peer_far_val]; omega

/-- The exchange on one side, as a permutation of the devices. -/
def swap (b : Bool) : Dev nD ≃ Dev nD := ⟨peer b, peer b, peer_peer b, peer_peer b⟩

theorem peer_inj {b : Bool} {c d : Dev nD} (h : peer b c = peer b d) : c = d := (swap b).injective h

/-- The devices the two copies name are the peers again. -/
theorem dev3_eq (c : Dev nD) : (⟨k0_dev3 c, k0_dev3_lt c⟩ : Dev nD) = peer false c :=
  Fin.ext ((k0_dev3_eq c).trans (peer_near_val c).symm)
theorem dev4_eq (c : Dev nD) : (⟨k0_dev4 c, k0_dev4_lt c⟩ : Dev nD) = peer true c :=
  Fin.ext ((k0_dev4_eq c).trans (peer_far_val c).symm)

/-! ## Rows of the result -/

/-- The staged input block and the staged result. -/
abbrev xM : Memref sig .tc .vmem S512x512 .bf16 := Memref.whole cc0_stg0_0
abbrev oM : Memref sig .tc .vmem S1024x512 .bf16 := Memref.whole cc0_stg1_0

/-- The rows of the result that device `d`'s block takes. -/
abbrev blockR (d : Dev nD) : Rect S1024x512 := Rect.unit (s := S1024x512) (k0_off1 d) S512x512.size (k0_off1_inb d)

/-- Of these the half device `d` sends: the first to the near peer, the second to the far one. -/
@[reducible] def halfM : Bool → Dev nD → Memref sig .tc .vmem S256x512 .bf16
  | false, d => oM.slice (Rect.unit (s := S1024x512) (k0_off2 d) S256x512.size (k0_off2_inb d)) (fun _ => rfl)
  | true, d => oM.slice (Rect.unit (s := S1024x512) (k0_off3 d) S256x512.size (k0_off3_inb d)) (fun _ => rfl)

/-- The first row of that half. -/
def firstRow (b : Bool) (d : Dev nD) : ℕ := 512 * (d.val % 2) + if b then 256 else 0

/-- A staged result's index set. -/
abbrev OIdx : Type := S1024x512.Idx

/-- The elements of device `d`'s block, and of one half of it. -/
def blockSet (d : Dev nD) : Finset OIdx := (oM.access (blockR d)).set
def halfSet (b : Bool) (d : Dev nD) : Finset OIdx := match b with
  | false => (halfM false d).view.set
  | true => (halfM true d).view.set

theorem mem_rows {off size : Fin 2 → ℕ} {inb} (a n : ℕ) (ho : off = ![a, 0]) (hs : size = ![n, 512]) (i : OIdx) :
    i ∈ (Rect.unit (s := S1024x512) off size inb).set ↔ a ≤ (i 0).val ∧ (i 0).val < a + n := by
  subst ho hs
  rw [Rect.mem_set_unit]
  have h1 : (i 1).val < 512 := (i 1).isLt
  constructor
  · intro h; exact h 0
  · intro h x; fin_cases x
    · exact h
    · exact ⟨Nat.zero_le _, by show (i 1).val < 0 + 512; omega⟩

theorem mem_blockSet (d : Dev nD) (i : OIdx) :
    i ∈ blockSet d ↔ 512 * (d.val % 2) ≤ (i 0).val ∧ (i 0).val < 512 * (d.val % 2) + 512 := by
  unfold blockSet
  rw [show (oM.access (blockR d)).set = (blockR d).set from View.set_slice_whole cc0_stg1_0 (blockR d)]
  exact mem_rows _ _ (k0_off1_eq d) (by decide) i

theorem mem_halfSet (b : Bool) (d : Dev nD) (i : OIdx) :
    i ∈ halfSet b d ↔ firstRow b d ≤ (i 0).val ∧ (i 0).val < firstRow b d + 256 := by
  cases b
  · exact (Iff.of_eq (congrArg (i ∈ ·) (View.set_slice_whole cc0_stg1_0 _))).trans
      (mem_rows _ _ (k0_off2_eq d) (by decide) i)
  · exact (Iff.of_eq (congrArg (i ∈ ·) (View.set_slice_whole cc0_stg1_0 _))).trans
      (mem_rows _ _ (k0_off3_eq d) (by decide) i)

/-- A device's block is its two halves. -/
theorem blockSet_eq (d : Dev nD) : blockSet d = halfSet false d ∪ halfSet true d := by
  ext i
  rw [Finset.mem_union, mem_blockSet, mem_halfSet, mem_halfSet]
  simp only [firstRow, if_true, Bool.false_eq_true, if_false]
  omega

theorem halves_disjoint (d : Dev nD) : Disjoint (halfSet false d) (halfSet true d) := by
  refine Finset.disjoint_left.mpr fun i h h' => ?_
  rw [mem_halfSet] at h h'
  simp only [firstRow, if_true, Bool.false_eq_true, if_false] at h h'
  omega

/-- The result's elements are device `c`'s block, the half its near peer sends it and the half its far peer sends it. -/
theorem rows_cover (c : Dev nD) :
    (Finset.univ : Finset OIdx) = (blockSet c ∪ halfSet false (peer false c)) ∪ halfSet true (peer true c) := by
  ext i
  have h0 : (i 0).val < 1024 := (i 0).isLt
  have hn := peer_col false c
  have hf := peer_col true c
  simp only [Finset.mem_univ, Finset.mem_union, mem_blockSet, mem_halfSet, firstRow, if_true, Bool.false_eq_true, if_false, true_iff]
  omega

theorem near_disjoint (c : Dev nD) : Disjoint (blockSet c) (halfSet false (peer false c)) := by
  refine Finset.disjoint_left.mpr fun i h h' => ?_
  have hn := peer_col false c
  rw [mem_blockSet] at h
  rw [mem_halfSet] at h'
  simp only [firstRow, Bool.false_eq_true, if_false] at h'
  omega

theorem far_disjoint (c : Dev nD) : Disjoint (blockSet c ∪ halfSet false (peer false c)) (halfSet true (peer true c)) := by
  refine Finset.disjoint_left.mpr fun i h h' => ?_
  have hn := peer_col false c
  have hf := peer_col true c
  rw [Finset.mem_union, mem_blockSet, mem_halfSet] at h
  rw [mem_halfSet] at h'
  simp only [firstRow, if_true, Bool.false_eq_true, if_false] at h h'
  omega

/-! ## Contents -/

/-- A place of a block: the row counted within the block. -/
def pick (i : OIdx) : S512x512.Idx := fun
  | ⟨0, _⟩ => ⟨(i 0).val % 512, Nat.mod_lt _ (by decide)⟩
  | ⟨1, _⟩ => ⟨(i 1).val, (i 1).isLt⟩

/-- The device whose block fills row `r` of device `c`'s result: `c` itself on its own rows, on the others the near
    peer for the first half and the far peer for the second. -/
def origin (c : Dev nD) (r : ℕ) : Dev nD :=
  if r / 512 = c.val % 2 then c else if r % 512 < 256 then peer false c else peer true c

theorem origin_own {c : Dev nD} {i : OIdx} (h : i ∈ blockSet c) : origin c (i 0).val = c := by
  rw [mem_blockSet] at h
  exact if_pos (by omega)

theorem half_sub_block (b : Bool) (d : Dev nD) : halfSet b d ⊆ blockSet d := by
  rw [blockSet_eq]
  cases b
  · exact Finset.subset_union_left
  · exact Finset.subset_union_right

/-- On the half that device `c` sends to its peer, the peer's result is filled by `c`. -/
theorem origin_peer {b : Bool} {c : Dev nD} {i : OIdx} (h : i ∈ halfSet b c) : origin (peer b c) (i 0).val = c := by
  have hp := peer_col b c
  rw [mem_halfSet] at h
  unfold origin
  rw [if_neg (by unfold firstRow at h; split at h <;> omega)]
  cases b
  · rw [if_pos (by simp only [firstRow, Bool.false_eq_true, if_false] at h; omega)]; exact peer_peer false c
  · rw [if_neg (by simp only [firstRow, if_true] at h; omega)]; exact peer_peer true c

/-- From the blocks `x d` of the devices, what device `c` gathers. -/
def gather (x : Dev nD → S512x512.Idx → Elt F .bf16) (c : Dev nD) : OIdx → Elt F .bf16 :=
  fun i => x (origin c (i 0).val) (pick i)

omit [FloatOps F] in
/-- The sender and the receiver of a half gather the same there. -/
theorem gather_peer (x : Dev nD → S512x512.Idx → Elt F .bf16) (b : Bool) (c : Dev nD) {i : OIdx} (h : i ∈ halfSet b c) :
    gather x c i = gather x (peer b c) i := by
  unfold gather
  rw [origin_peer h, origin_own (half_sub_block b c h)]

end Cert.KernelIdeal.Exchange

end
-- ==== Proof.KernelIdealProtocol.lean ====
/-
The protocol of the bidirectional all-gather.

Every device has five counters the devices meet at, each used for one round:

* its BARRIER counter, raised by one by each of its two peers and waited on for two. A peer's unit brings the rows of
  that peer's staged result which the device is going to fill, at whatever they hold, and the fact that the peer's
  receive counter for them has started;
* per side a SEND counter, raised when the device's own outgoing copy has been read: it brings the sent half back;
* per side a RECEIVE counter, raised when the peer's copy has landed: it brings the half that the peer filled, at the
  gathered contents.

A device owes its peers, from the launch on, a unit at each one's barrier and a copy at each one's receive counter. A
wait is allowed only below all that the waiting device still owes: the barriers lie at level 1, the receive counters
at level 2 and everything else at level 0.
-/
module

public import proofs.«01_k».proof.Proof.KernelIdealRegions

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and, beside them, the exchange's (its duties named by a side) -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: arbitrary contents, every counter at zero, arbitrary generator registers. -/
def s₀ : MemSt nD τ sig (Elt F) := ⟨m, fun _ => 0, ρ⟩

/-! ## The counters -/

/-- The barrier counter all devices share the number of; per side the send and the receive counter. -/
abbrev barS : Sem sig := (SemArray.scalar (sig.barrier 0 rfl) : Sems sig S_).sem
@[reducible] def sendQ : Bool → DmaSem sig
  | false => (((cc0_scratch0 : DmaSems sig S2).slice (Rect.unit (s := S2) ![0] S1.size inb_S2_S1_0)).squeeze S_ squeezes_S1_S_).sem
  | true => (((cc0_scratch0 : DmaSems sig S2).slice (Rect.unit (s := S2) ![1] S1.size inb_S2_S1_1)).squeeze S_ squeezes_S1_S_).sem
@[reducible] def recvQ : Bool → DmaSem sig
  | false => (((cc0_scratch1 : DmaSems sig S2).slice (Rect.unit (s := S2) ![0] S1.size inb_S2_S1_0)).squeeze S_ squeezes_S1_S_).sem
  | true => (((cc0_scratch1 : DmaSems sig S2).slice (Rect.unit (s := S2) ![1] S1.size inb_S2_S1_1)).squeeze S_ squeezes_S1_S_).sem

/-- Which of the exchange's counters a DMA counter is: `some (true, b)` a receive one, `some (false, b)` a send one. -/
def sideOf (q : DmaSem sig) : Option (Bool × Bool) :=
  if q = sendQ false then some (false, false) else if q = sendQ true then some (false, true)
  else if q = recvQ false then some (true, false) else if q = recvQ true then some (true, true) else none

theorem sideOf_send (b : Bool) : sideOf (sendQ b) = some (false, b) := by revert b; decide
theorem sideOf_recv (b : Bool) : sideOf (recvQ b) = some (true, b) := by revert b; decide

abbrev barCell (c : Dev nD) : GSem nD τ sig := ((c : Thread nD τ), .reg barS)
abbrev sendCell (b : Bool) (c : Dev nD) : GSem nD τ sig := ((c : Thread nD τ), .dma (sendQ b))
abbrev recvCell (b : Bool) (c : Dev nD) : GSem nD τ sig := ((c : Thread nD τ), .dma (recvQ b))

/-- What a copy of one half is worth. -/
abbrev N : ℕ := (halfM false (0 : Dev nD)).view.dmaCredit
theorem half_amount_pos : 0 < N := View.dmaCredit_pos _ (by decide)
theorem credit_eq (b : Bool) (d : Dev nD) : (halfM b d).view.dmaCredit = N := by cases b <;> rfl

/-! ## Contents -/

/-- The staged input of device `c`: its block. -/
def xstg (c : Dev nD) : S512x512.Idx → Elt F .bf16 :=
  (win0_0.blk (0 : Fin 1)).view.read (Elt F) ((s₀ m ρ).mem ((c : Thread nD τ).loc main_arg0))

/-- What device `c`'s result ends holding. -/
def gathered (c : Dev nD) : (cc0_stg1_0 : Ref sig .tc).ty.Contents (Elt F) := gather (xstg m ρ) c

/-- Device `c` holds the elements `S` of its staged result, at contents `f`. -/
def held (c : Dev nD) (S : Finset OIdx) (f : (cc0_stg1_0 : Ref sig .tc).ty.Contents (Elt F)) : sProp 𝕄 :=
  ((c : Thread nD τ).loc cc0_stg1_0) ↦[S]{fullShare} f

omit [FloatOps F] in
instance held_storable (c : Dev nD) (S : Finset OIdx) (f) : BI.Storable (upEmb : UEmb _ 𝕄) (held (F := F) c S f) := by
  unfold held; infer_instance

/-! ## The schedule -/

/-- A unit from the peer on side `b` at device `c`'s barrier: the rows `c` fills there, and that their counter started. -/
def barPay (b : Bool) (c : Dev nD) : sProp 𝕄 :=
  iprop((∃ f, held (peer b c) (halfSet b c) f) ∗ reached EX (recvCell b (peer b c)) 0)
/-- The sent half back. -/
def sendPay (b : Bool) (c : Dev nD) : sProp 𝕄 := held c (halfSet b c) (gathered m ρ c)
/-- The half that the peer filled. -/
def recvPay (b : Bool) (c : Dev nD) : sProp 𝕄 := held c (halfSet b (peer b c)) (gathered m ρ c)

omit [FloatOps F] in
instance barPay_storable (b : Bool) (c : Dev nD) : BI.Storable (upEmb : UEmb _ 𝕄) (barPay (F := F) b c) := by
  unfold barPay; infer_instance
omit [FloatOps F] in
instance sendPay_storable (b : Bool) (c : Dev nD) : BI.Storable (upEmb : UEmb _ 𝕄) (sendPay (F := F) m ρ b c) := by
  unfold sendPay; infer_instance
omit [FloatOps F] in
instance recvPay_storable (b : Bool) (c : Dev nD) : BI.Storable (upEmb : UEmb _ 𝕄) (recvPay (F := F) m ρ b c) := by
  unfold recvPay; infer_instance

/-- What a DMA counter's only duty brings, by which counter it is. -/
def copyPay (c : Dev nD) : Option (Bool × Bool) → sProp 𝕄
  | some (false, b) => sendPay m ρ b c
  | some (true, b) => recvPay m ρ b c
  | none => iprop(emp)

omit [FloatOps F] in
instance copyPay_storable (c : Dev nD) (o : Option (Bool × Bool)) : BI.Storable (upEmb : UEmb _ 𝕄) (copyPay (F := F) m ρ c o) := by
  rcases o with _ | ⟨_ | _, b⟩ <;> (unfold copyPay; infer_instance)

/-- The duties of a counter's first round: a unit per side at the barrier, one copy at a send or receive counter. -/
def dutiesOf : SemLoc sig → Finset Bool
  | .reg s => if s = barS then Finset.univ else ∅
  | .dma q => if (sideOf q).isSome then {false} else ∅

/-- One round. -/
def plan : Rounds.Schedule (GSem nD τ sig) Bool 𝕄 where
  duties g r := if r = 0 ∧ g.1.2 = .tc then dutiesOf g.2 else ∅
  unitless _ := False
  amount g _ _ := match g.2 with
    | .reg _ => 1
    | .dma _ => N
  payload g _ b := match g.2 with
    | .reg _ => barPay b g.1.1
    | .dma q => copyPay m ρ g.1.1 (sideOf q)
  amount_pos g _ _ _ := by
    rcases g with ⟨_, _ | _⟩
    · exact Nat.one_pos
    · exact half_amount_pos

instance plan_storable (g : GSem nD τ sig) (r : ℕ) (d : Bool) : BI.Storable (upEmb : UEmb _ 𝕄) ((plan (F := F) m ρ).payload g r d) := by
  rcases g with ⟨_, _ | _⟩
  · exact barPay_storable d _
  · exact copyPay_storable m ρ _ _

section Tables
variable (b d : Bool) (c : Dev nD)

omit [FloatOps F] in
theorem duties_first (sm : SemLoc sig) : (plan (F := F) m ρ).duties ((c : Thread nD τ), sm) 0 = dutiesOf sm := by
  dsimp only [plan]; exact if_pos ⟨rfl, rfl⟩
omit [FloatOps F] in
theorem duties_bar : (plan (F := F) m ρ).duties (barCell c) 0 = Finset.univ := by
  rw [duties_first]; dsimp only [dutiesOf]; exact if_pos rfl
omit [FloatOps F] in
theorem duties_send : (plan (F := F) m ρ).duties (sendCell b c) 0 = {false} := by
  rw [duties_first]; exact if_pos (by rw [sideOf_send]; rfl)
omit [FloatOps F] in
theorem duties_recv : (plan (F := F) m ρ).duties (recvCell b c) 0 = {false} := by
  rw [duties_first]; exact if_pos (by rw [sideOf_recv]; rfl)
omit [FloatOps F] in
/-- No counter has a second round. -/
theorem duties_done (g : GSem nD τ sig) : ∀ r, 0 + 1 ≤ r → (plan (F := F) m ρ).duties g r = ∅ :=
  fun r hr => if_neg fun h => by omega

omit [FloatOps F] in
theorem amount_bar : (plan (F := F) m ρ).amount (barCell c) 0 d = 1 := rfl
omit [FloatOps F] in
theorem amount_send : (plan (F := F) m ρ).amount (sendCell b c) 0 d = N := rfl
omit [FloatOps F] in
theorem amount_recv : (plan (F := F) m ρ).amount (recvCell b c) 0 d = N := rfl

omit [FloatOps F] in
theorem expect_bar : (plan (F := F) m ρ).expect (barCell c) 0 = 2 := by
  unfold Schedule.expect Schedule.amountOf
  rw [duties_bar]; rfl
omit [FloatOps F] in
theorem expect_send : (plan (F := F) m ρ).expect (sendCell b c) 0 = N := by
  unfold Schedule.expect Schedule.amountOf
  rw [duties_send, Finset.sum_singleton, amount_send]
omit [FloatOps F] in
theorem expect_recv : (plan (F := F) m ρ).expect (recvCell b c) 0 = N := by
  unfold Schedule.expect Schedule.amountOf
  rw [duties_recv, Finset.sum_singleton, amount_recv]

omit [FloatOps F] in
theorem payload_bar : (plan (F := F) m ρ).payload (barCell c) 0 b = barPay b c := rfl
omit [FloatOps F] in
theorem payload_send : (plan (F := F) m ρ).payload (sendCell b c) 0 d = sendPay m ρ b c := by
  show copyPay m ρ c (sideOf (sendQ b)) = _; rw [sideOf_send]; rfl
omit [FloatOps F] in
theorem payload_recv : (plan (F := F) m ρ).payload (recvCell b c) 0 d = recvPay m ρ b c := by
  show copyPay m ρ c (sideOf (recvQ b)) = _; rw [sideOf_recv]; rfl

omit [FloatOps F] in
/-- All that a full barrier brings. -/
theorem brings_bar : bigSep ((plan (F := F) m ρ).duties (barCell c) 0 \ ∅) (fun b => (plan (F := F) m ρ).payload (barCell c) 0 b)
    = iprop(barPay false c ∗ barPay true c) := by
  rw [Finset.sdiff_empty, duties_bar, bigSep_univ_eq_bigSepL [false, true] (by decide) (by decide)]; rfl
omit [FloatOps F] in
theorem brings_send : bigSep ((plan (F := F) m ρ).duties (sendCell b c) 0 \ ∅) (fun d => (plan (F := F) m ρ).payload (sendCell b c) 0 d)
    = sendPay m ρ b c := by
  rw [Finset.sdiff_empty, duties_send, bigSep_singleton, payload_send]
omit [FloatOps F] in
theorem brings_recv : bigSep ((plan (F := F) m ρ).duties (recvCell b c) 0 \ ∅) (fun d => (plan (F := F) m ρ).payload (recvCell b c) 0 d)
    = recvPay m ρ b c := by
  rw [Finset.sdiff_empty, duties_recv, bigSep_singleton, payload_recv]

end Tables

/-! ## Debts and levels -/

/-- Owed once both signals are out: the two copies, the near one to be paid first. -/
def oweCopies (c : Dev nD) : CellTallies nD τ sig Unit :=
  tallyAt (recvCell true (peer true c)) () N + tallyAt (recvCell false (peer false c)) () N
/-- Owed once the near signal is out. -/
def oweFar (c : Dev nD) : CellTallies nD τ sig Unit := oweCopies c + tallyAt (barCell (peer true c)) () 1
/-- Owed at launch. -/
def oweAll (c : Dev nD) : CellTallies nD τ sig Unit := oweFar c + tallyAt (barCell (peer false c)) () 1

/-- Levels exist on the TensorCores' counters. -/
def L (g : GSem nD τ sig) : Finset Unit := if g.1.2 = .tc then {()} else ∅
/-- A counter's level: barriers 1, receive counters 2, all else 0. -/
def lv (g : GSem nD τ sig) (_ : Unit) : ℕ := match g.2 with
  | .reg _ => 1
  | .dma q => if q = recvQ false ∨ q = recvQ true then 2 else 0

theorem L_none (g : GSem nD τ sig) (h : g.1.2 ≠ .tc) : L g = ∅ := if_neg h
theorem mem_L (c : Dev nD) (sm : SemLoc sig) : () ∈ L ((c : Thread nD τ), sm) := by
  unfold L; rw [if_pos rfl]; exact Finset.mem_singleton_self _

theorem lv_bar (c : Dev nD) : lv (barCell c) () = 1 := rfl
theorem lv_recv (b : Bool) (c : Dev nD) : lv (recvCell b c) () = 2 := if_pos (by cases b; exacts [.inl rfl, .inr rfl])

/-- The copies owed are owed at the peers' receive counters. -/
theorem oweCopies_at {c : Dev nD} {g : GSem nD τ sig} {u : Unit} (h : 0 < oweCopies c g u) : ∃ b, g = recvCell b (peer b c) := by
  by_contra hn
  rw [not_exists] at hn
  unfold oweCopies at h
  rw [Pi.add_apply, Finsupp.add_apply, tallyAt_apply, tallyAt_apply, if_neg fun h' => hn true h'.1, if_neg fun h' => hn false h'.1] at h
  exact Nat.lt_irrefl 0 h

/-- All that is owed at launch is owed at the peers' receive and barrier counters. -/
theorem oweAll_at {c : Dev nD} {g : GSem nD τ sig} {u : Unit} (h : 0 < oweAll c g u) :
    ∃ b, g = recvCell b (peer b c) ∨ g = barCell (peer b c) := by
  by_contra hn
  rw [not_exists] at hn
  unfold oweAll oweFar at h
  rw [Pi.add_apply, Finsupp.add_apply, Pi.add_apply, Finsupp.add_apply, tallyAt_apply, tallyAt_apply,
    if_neg fun h' => hn true (.inr h'.1), if_neg fun h' => hn false (.inr h'.1), Nat.add_zero] at h
  obtain ⟨b, hb⟩ := oweCopies_at h
  exact hn b (.inl hb)

omit [FloatOps F] in
/-- A device may wait on its barrier while it owes the two copies. -/
theorem mayWait_bar (c : Dev nD) : (levAts L lv : sProp 𝕄) ⊢ MayWait (c : Thread nD τ) (.reg barS) () (oweCopies c) :=
  MayOwe.of_cut (L := L) (lev := lv) 1
    (fun p hp => by rw [Finset.mem_singleton.mp hp]; exact mem_L c _)
    (fun g u hg => by obtain ⟨b, rfl⟩ := oweCopies_at hg; exact mem_L _ _)
    (fun p hp => by rw [Finset.mem_singleton.mp hp]; exact le_of_eq (lv_bar c))
    (fun g u hg => by obtain ⟨b, rfl⟩ := oweCopies_at hg; exact lt_of_lt_of_eq (by decide) (lv_recv b _).symm)

omit [FloatOps F] in
/-- The staging's own waits, at level 0, are allowed under all debts and under none. -/
theorem mayWait_stage (c : Dev nD) (q : DmaSem sig) (hq : ¬ (q = recvQ false ∨ q = recvQ true)) (O : CellTallies nD τ sig Unit)
    (hO : O = oweAll c ∨ O = 0) : (levAts L lv : sProp 𝕄) ⊢ MayWait (c : Thread nD τ) (.dma q) () O := by
  rcases hO with rfl | rfl
  · exact MayOwe.of_cut (L := L) (lev := lv) 0
      (fun p hp => by rw [Finset.mem_singleton.mp hp]; exact mem_L c _)
      (fun g u hg => by obtain ⟨b, rfl | rfl⟩ := oweAll_at hg <;> exact mem_L _ _)
      (fun p hp => by rw [Finset.mem_singleton.mp hp]; exact le_of_eq (if_neg hq))
      (fun g u hg => by
        obtain ⟨b, rfl | rfl⟩ := oweAll_at hg
        · exact lt_of_lt_of_eq (by decide) (lv_recv b _).symm
        · exact lt_of_lt_of_eq (by decide) (lv_bar _).symm)
  · rw [MayWait_zero]; iintro -; iempintro

end Cert.KernelIdeal.Exchange

end
-- ==== Proof.KernelIdealSteps.lean ====
/-
The steps of one device: what it does to its rows and to its peers' counters.

Each theorem here covers one statement of the kernel, or the change of view around one, for both sides at once: the
staged result taken apart into rows and put together again, the handover of rows with a barrier unit, the store of the
device's own block, the copy of one half to a peer, and the waits.
-/
module

public import proofs.«01_k».proof.Proof.KernelIdealProtocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No variants: the kernel has no loop. -/
abbrev 𝒱₀ : Variants := Variants.none

/-! ## The rows taken apart and put together -/

omit [FloatOps F] in
/-- Rows held as two disjoint sets are held as their union. -/
theorem held_union (c : Dev nD) {S T : Finset OIdx} (h : Disjoint S T) (f : (cc0_stg1_0 : Ref sig .tc).ty.Contents (Elt F)) :
    (held c (S ∪ T) f : sProp 𝕄) ⊣⊢ iprop(held c S f ∗ held c T f) := by
  unfold held; exact pointsTo_union (ℓ := (c : Thread nD τ).loc cc0_stg1_0) h

omit [FloatOps F] in
/-- The whole staged result: the own block, the near peer's half, the far peer's half. -/
theorem held_rows (c : Dev nD) (f : (cc0_stg1_0 : Ref sig .tc).ty.Contents (Elt F)) :
    held c Finset.univ f ⊣⊢ iprop((held c (blockSet c) f ∗ held c (halfSet false (peer false c)) f)
      ∗ held c (halfSet true (peer true c)) f) := by
  unfold held
  rw [show (Finset.univ : Finset OIdx) = _ from rows_cover c]
  have h := held_union c (far_disjoint c) f
  have h' := held_union c (near_disjoint c) f
  unfold held at h h'
  exact ⟨h.1.trans (sep_mono_left h'.1), (sep_mono_left h'.2).trans h.2⟩

omit [FloatOps F] in
/-- The own block: its two halves. -/
theorem held_halves (c : Dev nD) (f : (cc0_stg1_0 : Ref sig .tc).ty.Contents (Elt F)) :
    held c (blockSet c) f ⊣⊢ iprop(held c (halfSet false c) f ∗ held c (halfSet true c) f) := by
  unfold held
  rw [blockSet_eq]
  exact held_union c (halves_disjoint c) f

omit [FloatOps F] in
/-- Contents that agree on the rows held are interchangeable. -/
theorem held_congr (c : Dev nD) {S : Finset OIdx} {f g : (cc0_stg1_0 : Ref sig .tc).ty.Contents (Elt F)} (h : ∀ i ∈ S, f i = g i) :
    (held c S f : sProp 𝕄) = held c S g := by
  unfold held; exact pointsTo_congr h

/-! ## The barrier -/

omit [FloatOps F] in
/-- What a device hands a peer with its unit: the rows of its own staged result that the peer fills. -/
theorem hand_over (b : Bool) (c : Dev nD) (f : (cc0_stg1_0 : Ref sig .tc).ty.Contents (Elt F)) :
    iprop(held c (halfSet b (peer b c)) f ∗ reached EX (recvCell b c) 0) ⊢ (plan m ρ).payload (barCell (peer b c)) 0 b := by
  rw [payload_bar]; unfold barPay; rw [peer_peer]
  iintro ⟨H, R⟩
  isplitl [H]; · iexists f; iexact H
  iexact R

/-- One unit to the peer on side `b`. -/
theorem wp_greet (b : Bool) (c : Dev nD) (κ : ℕ) {α : Type} {Q : α → sProp 𝕄}
    {k : PUnit → Prog (TpuEff nD τ sig (Elt F) Λ₀ .tc) α} (f : (cc0_stg1_0 : Ref sig .tc).ty.Contents (Elt F))
    (O : CellTallies nD τ sig Unit) (W : Waits sig Unit) :
    iprop(cellInv EX (plan m ρ) κ (barCell (peer b c)) ∗ owes (c : Thread nD τ) (O + tallyAt (barCell (peer b c)) () 1) W
        ∗ dutyTok EX (barCell (peer b c)) 0 b ∗ (held c (halfSet b (peer b c)) f ∗ reached EX (recvCell b c) 0)
        ∗ reached EX (barCell (peer b c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (peer b c : Thread nD τ) barS (1#32).toNat) k) Q) :=
  (sep_mono_right (sep_mono_right (sep_mono_right (sep_mono_left (hand_over m ρ b c f))))).trans
    (Rounds.wp_signal 𝒱₀ EX (plan m ρ) (c : Thread nD τ) none (dst := (peer b c : Thread nD τ)) (κ := κ) (d := b)
      (by rw [duties_bar]; exact Finset.mem_univ _) ((amount_bar m ρ b (peer b c)).trans (by decide)) () O rfl)

/-! ## The own block -/

omit [FloatOps F] in
/-- The whole input block is read. -/
theorem read_block (f : (cc0_stg0_0 : Ref sig .tc).ty.Contents (Elt F)) :
    xM.view.readAt (Elt F) (Rect.unit (s := S512x512) ![0, 0] S512x512.size inb_S512x512_S512x512_0_0).toLoadRect f = f :=
  Memref.readAt_unit_zero (Elt F) cc0_stg0_0 (funext fun a => by fin_cases a <;> rfl) _ f

/-- The stored value is the value read. -/
theorem stored_eq (x : S512x512.Idx → Elt F .bf16) : k0_pay1 (F := F) x = x := shapeCast_self x _

omit [FloatOps F] in
/-- Where the store puts a place of the block, the row counted within the block is that place. -/
theorem pick_emb (d : Dev nD) (y : S512x512.Idx) : pick ((oM.access (blockR d)).emb y) = y := by
  have h0 : ((oM.access (blockR d)).emb y 0).val = k0_off1 d 0 + 1 * (y 0).val := rfl
  have h1 : ((oM.access (blockR d)).emb y 1).val = k0_off1 d 1 + 1 * (y 1).val := rfl
  have e0 : k0_off1 d 0 = 512 * (d.val % 2) := congrFun (k0_off1_eq d) 0
  have e1 : k0_off1 d 1 = 0 := congrFun (k0_off1_eq d) 1
  have hy : (y 0).val < 512 := (y 0).isLt
  funext a
  fin_cases a
  · refine Fin.ext ?_
    show ((oM.access (blockR d)).emb y 0).val % 512 = (y 0).val
    rw [h0, e0]; omega
  · refine Fin.ext ?_
    show ((oM.access (blockR d)).emb y 1).val = (y 1).val
    rw [h1, e1]; omega

omit [FloatOps F] in
/-- The store leaves the gathered contents on the own rows. -/
theorem store_block (c : Dev nD) (f : (cc0_stg1_0 : Ref sig .tc).ty.Contents (Elt F)) :
    ∀ i ∈ blockSet c, (oM.access (blockR c)).write (Elt F) f (xstg m ρ c) Finset.univ i = gathered m ρ c i := by
  intro i hi
  obtain ⟨y, -, rfl⟩ := Finset.mem_map.mp hi
  refine (View.write_emb_of_mem (v := oM.access (blockR c)) f (xstg m ρ c) (Finset.mem_univ y)).trans ?_
  show xstg m ρ c y = xstg m ρ (origin c _) (pick _)
  rw [origin_own hi, pick_emb]

/-! ## The copies -/

omit [FloatOps F] in
/-- A copy of the half that `c` sends leaves on its peer what the peer gathers there. -/
theorem copy_lands (b : Bool) (c : Dev nD) (f : (cc0_stg1_0 : Ref sig .tc).ty.Contents (Elt F)) :
    ∀ i ∈ halfSet b c, (match b with
      | false => (halfM false c).view.write (Elt F) f ((halfM false c).view.read (Elt F) (gathered m ρ c)) Finset.univ
      | true => (halfM true c).view.write (Elt F) f ((halfM true c).view.read (Elt F) (gathered m ρ c)) Finset.univ :
        (cc0_stg1_0 : Ref sig .tc).ty.Contents (Elt F)) i = gathered m ρ (peer b c) i := by
  intro i hi
  have hg := gather_peer (xstg m ρ) b c hi
  cases b
  · refine (congrFun (View.write_read_eq_piecewise (v := (halfM false c).view) f (gathered m ρ c) Finset.univ) i).trans ?_
    exact (Finset.piecewise_eq_of_mem _ _ _ hi).trans hg
  · refine (congrFun (View.write_read_eq_piecewise (v := (halfM true c).view) f (gathered m ρ c) Finset.univ) i).trans ?_
    exact (Finset.piecewise_eq_of_mem _ _ _ hi).trans hg

omit [FloatOps F] in
/-- A half is whole words of memory. -/
theorem half_words (b : Bool) (c : Dev nD) : (halfM b c).view.WordExact := by
  cases b
  · exact (Memref.isWhole_whole cc0_stg1_0).wordExact_slice rfl _ (k0_off2_wordsbf16 c)
  · exact (Memref.isWhole_whole cc0_stg1_0).wordExact_slice rfl _ (k0_off3_wordsbf16 c)

/-- The copy of one half to the peer on its side, the peer's rows in hand. -/
theorem wp_copy (b : Bool) (c n : Dev nD) (hn : n = peer b c) (κ₁ κ₂ : ℕ)
    {hsc : (halfM b c : Memref sig (Dev.tc n : Thread nD τ).2.kind .vmem S256x512 .bf16).view.ref.isScScratch = false}
    {hsrc : (halfM b c).view.WordExact} {hdst : (halfM b c).view.WordExact}
    {hsem : DmaTarget.Typed .vmem (.dma (recvQ b)) (.remote (Dev.tc n : Thread nD τ) (halfM b c) (.dma (sendQ b)) hsc)}
    {α : Type} {Q : α → sProp 𝕄} {k : PUnit → Prog (TpuEff nD τ sig (Elt F) Λ₀ .tc) α}
    (f : (cc0_stg1_0 : Ref sig .tc).ty.Contents (Elt F)) (O : CellTallies nD τ sig Unit) (W : Waits sig Unit) :
    iprop(cellInv EX (plan m ρ) κ₁ (sendCell b c) ∗ cellInv EX (plan m ρ) κ₂ (recvCell b (peer b c))
        ∗ held c (halfSet b c) (gathered m ρ c) ∗ held (peer b c) (halfSet b c) f
        ∗ owes (c : Thread nD τ) (O + tallyAt (recvCell b (peer b c)) () N) W
        ∗ dutyTok EX (sendCell b c) 0 false ∗ reached EX (sendCell b c) 0
        ∗ dutyTok EX (recvCell b (peer b c)) 0 false ∗ reached EX (recvCell b (peer b c)) 0)
      ⊢ iprop(((cred (tallyAt (sendCell b c) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfM b c) (.remote (Dev.tc n : Thread nD τ) (halfM b c) (.dma (sendQ b)) hsc) (.dma (recvQ b)) hsrc hdst hsem) k) Q) := by
  subst hn
  have hland : held (peer b c) (halfSet b c) (gathered m ρ (peer b c)) ⊢ (plan m ρ).payload (recvCell b (peer b c)) 0 false := by
    rw [payload_recv]; unfold recvPay; rw [peer_peer]
  have hback : held c (halfSet b c) (gathered m ρ c) ⊢ (plan m ρ).payload (sendCell b c) 0 false := by
    rw [payload_send]; exact BI.Entails.refl _
  have hcopy := held_congr (F := F) (peer b c) (copy_lands m ρ b c f)
  have hs : false ∈ (plan (F := F) m ρ).duties (sendCell b c) 0 := by rw [duties_send]; exact Finset.mem_singleton_self _
  have hr : false ∈ (plan (F := F) m ρ).duties (recvCell b (peer b c)) 0 := by rw [duties_recv]; exact Finset.mem_singleton_self _
  have hn₁ : (plan (F := F) m ρ).amount (sendCell b c) 0 false = N := amount_send ..
  have hn₂ : (plan (F := F) m ρ).amount (recvCell b (peer b c)) 0 false = N := amount_recv ..
  cases b
  · have e : halfSet false c = (halfM false c).view.set := rfl
    unfold held at hland hback hcopy ⊢
    rw [e] at hland hback hcopy ⊢
    have hpay := (Entails.of_eq hcopy).trans hland
    exact Rounds.wp_send_pointsTo 𝒱₀ EX (plan m ρ) (c : Thread nD τ) none (c' := (Dev.tc (peer false c) : Thread nD τ))
      (src := halfM false c) (dst := halfM false c) (sS := .dma (sendQ false))
      (sem := .dma (recvQ false)) (q := fullShare) (κ₁ := κ₁) (κ₂ := κ₂)
      (r₁ := 0) (r₂ := 0) (d₁ := false) (d₂ := false) (fd := f) (fs := gathered m ρ c)
      hs hr () () N (credit_eq false c) hn₁ hn₂ O rfl (W := W) hback hpay
  · have e : halfSet true c = (halfM true c).view.set := rfl
    unfold held at hland hback hcopy ⊢
    rw [e] at hland hback hcopy ⊢
    have hpay := (Entails.of_eq hcopy).trans hland
    exact Rounds.wp_send_pointsTo 𝒱₀ EX (plan m ρ) (c : Thread nD τ) none (c' := (Dev.tc (peer true c) : Thread nD τ))
      (src := halfM true c) (dst := halfM true c) (sS := .dma (sendQ true))
      (sem := .dma (recvQ true)) (q := fullShare) (κ₁ := κ₁) (κ₂ := κ₂)
      (r₁ := 0) (r₂ := 0) (d₁ := false) (d₂ := false) (fd := f) (fs := gathered m ρ c)
      hs hr () () N (credit_eq true c) hn₁ hn₂ O rfl (W := W) hback hpay

/-! ## The waits -/

/-- The wait for both peers' units: their rows come with them. -/
theorem wp_await_peers (c : Dev nD) (κ : ℕ) {α : Type} {Q : α → sProp 𝕄}
    {k : PUnit → Prog (TpuEff nD τ sig (Elt F) Λ₀ .tc) α} (W : Waits sig Unit) :
    iprop(cellInv EX (plan m ρ) κ (barCell c) ∗ cred (tallyAt (barCell c) () 2) ∗ owes (c : Thread nD τ) (oweCopies c) W
        ∗ levAts L lv ∗ atPos EX (barCell c) 0 ∅ 0)
      ⊢ iprop(((owes (c : Thread nD τ) (oweCopies c) (insert (SemLoc.reg barS, ()) W) ∗ atPos EX (barCell c) (0 + 1) ∅ 0
              ∗ barPay false c ∗ barPay true c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  iintro ⟨HI, Hc, HO, HL, Hat⟩ Hk
  iapply (Rounds.wp_wait_rest_token 𝒱₀ EX (plan m ρ) (c : Thread nD τ) none (κ := κ)
      (wpE_semWait_eq 𝒱₀ (c : Thread nD τ) none Set.univ) (Set.mem_univ _) () (O := oweCopies c) (W := W) (R := 0) (m := 0) (T := ∅)
      (by rw [expect_bar]; decide)) $$ [HI Hc HO HL Hat]
  · isplitl [HI]; · iexact HI
    isplitl [Hc]; · iexact Hc
    isplitl [HO]; · iexact HO
    isplitl [HL]; · iapply (mayWait_bar c); iexact HL
    iexact Hat
  iintro ⟨HO, Hat, -, Hp⟩
  iapply Hk
  isplitl [HO]; · iexact HO
  isplitl [Hat]; · iexact Hat
  iapply (Entails.of_eq (brings_bar m ρ c)); iexact Hp

/-- A wait on a copy's counter, nothing owed any more: what the copy brings. -/
theorem wp_await_copy (b : Bool) (c : Dev nD) (q : DmaSem sig) (κ : ℕ) {α : Type} {Q : α → sProp 𝕄} {P : sProp 𝕄}
    {k : PUnit → Prog (TpuEff nD τ sig (Elt F) Λ₀ .tc) α} (W : Waits sig Unit)
    (hN : (plan (F := F) m ρ).expect ((c : Thread nD τ), .dma q) 0 = N)
    (hP : bigSep ((plan (F := F) m ρ).duties ((c : Thread nD τ), .dma q) 0 \ ∅) (fun d => (plan (F := F) m ρ).payload ((c : Thread nD τ), .dma q) 0 d) = P) :
    iprop(cellInv EX (plan m ρ) κ ((c : Thread nD τ), .dma q) ∗ cred (tallyAt ((c : Thread nD τ), .dma q) () N)
        ∗ owes (c : Thread nD τ) 0 W ∗ atPos EX ((c : Thread nD τ), .dma q) 0 ∅ 0)
      ⊢ iprop(((owes (c : Thread nD τ) 0 (insert (SemLoc.dma q, ()) W) ∗ atPos EX ((c : Thread nD τ), .dma q) (0 + 1) ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (halfM b c) (halfM b c) (half_words b c) (half_words b c)) k) Q) := by
  have hu := wpE_waitDma2_eq (defs := defs₀ (F := F)) (Ix := Unit) (Name := ℕ) (U := UU) (Lvl := ℕ) 𝒱₀ (c : Thread nD τ) none Set.univ (sem := q)
    (src := halfM b c) (dst := halfM b c) (hsrc := half_words b c) (hdst := half_words b c)
  rw [credit_eq] at hu
  subst hP
  iintro ⟨HI, Hc, HO, Hat⟩ Hk
  iapply (Rounds.wp_wait_rest_token 𝒱₀ EX (plan m ρ) (c : Thread nD τ) none (κ := κ)
      hu (Set.mem_univ _) () (O := 0) (W := W) (R := 0) (m := 0) (T := ∅) ((Nat.zero_add _).trans hN.symm)) $$ [HI Hc HO Hat]
  · isplitl [HI]; · iexact HI
    isplitl [Hc]; · iexact Hc
    isplitl [HO]; · iexact HO
    isplitr; · rw [MayWait_zero]; iempintro
    iexact Hat
  iintro ⟨HO, Hat, -, Hp⟩
  iapply Hk
  isplitl [HO]; · iexact HO
  isplitl [Hat]; · iexact Hat
  iexact Hp

omit [FloatOps F] in
/-- A counter whose one round is over is put out of use: it reads zero and is the device's own again. -/
theorem put_away (g : GSem nD τ sig) (κ : ℕ) :
    iprop(cellInv EX (plan m ρ) κ g ∗ atPos EX g (0 + 1) ∅ 0) ⊢ |={Set.univ}=> semVal g 0 :=
  Rounds.cell_close EX (plan m ρ) (Set.mem_univ κ) (fun h => h) (R := 0 + 1) (duties_done m ρ g)

end Cert.KernelIdeal.Exchange

end
-- ==== Proof.KernelIdealBody.lean ====
/-
The kernel body on one device, from what it is given at the start to the gathered result.

The body runs in three stretches: it greets its peers, waits for their greetings and stores its own block; it sends the two
halves and waits for the near copy; it waits for the far copy. At the end its five counters are put away and its rows joined.
-/
module

public import proofs.«01_k».proof.Proof.KernelIdealSteps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The counters together -/

/-- A device's five counters: the barrier, and a send (`false`) and a receive (`true`) one per side. -/
abbrev Counter := Option (Bool × Bool)
def csem : Counter → SemLoc sig
  | none => .reg barS
  | some (false, b) => .dma (sendQ b)
  | some (true, b) => .dma (recvQ b)
abbrev kcell (ck : Dev nD × Counter) : GSem nD τ sig := ((ck.1 : Thread nD τ), csem ck.2)

variable (K : Dev nD × Counter → ℕ)

/-- What everyone knows: each counter follows the plan, and its first round is open. -/
def records : sProp 𝕄 :=
  bigSep Finset.univ fun ck => iprop(cellInv EX (plan m ρ) (K ck) (kcell ck) ∗ reached EX (kcell ck) 0)

instance records_persistent : BI.Persistent (records (F := F) m ρ K) := by unfold records; infer_instance

omit [FloatOps F] in
theorem record_at (ck : Dev nD × Counter) :
    records m ρ K ⊢ iprop(cellInv EX (plan m ρ) (K ck) (kcell ck) ∗ reached EX (kcell ck) 0) :=
  bigSep_elim (Finset.mem_univ ck)

omit [FloatOps F] in
theorem inv_bar (c : Dev nD) : records m ρ K ⊢ cellInv EX (plan m ρ) (K (c, none)) (barCell c) :=
  (record_at m ρ K (c, none)).trans (by iintro ⟨H, -⟩; iexact H)
omit [FloatOps F] in
theorem inv_send (b : Bool) (c : Dev nD) : records m ρ K ⊢ cellInv EX (plan m ρ) (K (c, some (false, b))) (sendCell b c) :=
  (record_at m ρ K (c, some (false, b))).trans (by iintro ⟨H, -⟩; iexact H)
omit [FloatOps F] in
theorem inv_recv (b : Bool) (c : Dev nD) : records m ρ K ⊢ cellInv EX (plan m ρ) (K (c, some (true, b))) (recvCell b c) :=
  (record_at m ρ K (c, some (true, b))).trans (by iintro ⟨H, -⟩; iexact H)
omit [FloatOps F] in
theorem open_bar (c : Dev nD) : records m ρ K ⊢ reached EX (barCell c) 0 :=
  (record_at m ρ K (c, none)).trans (by iintro ⟨-, H⟩; iexact H)
omit [FloatOps F] in
theorem open_send (b : Bool) (c : Dev nD) : records m ρ K ⊢ reached EX (sendCell b c) 0 :=
  (record_at m ρ K (c, some (false, b))).trans (by iintro ⟨-, H⟩; iexact H)
omit [FloatOps F] in
theorem open_recv (b : Bool) (c : Dev nD) : records m ρ K ⊢ reached EX (recvCell b c) 0 :=
  (record_at m ρ K (c, some (true, b))).trans (by iintro ⟨-, H⟩; iexact H)

/-! ## What a device carries -/

/-- On one side, from the launch on: the device's places at its send and receive counters, and the right to pay the two. -/
def side (b : Bool) (c : Dev nD) : sProp 𝕄 :=
  iprop(atPos EX (sendCell b c) 0 ∅ 0 ∗ atPos EX (recvCell b c) 0 ∅ 0
    ∗ dutyTok EX (sendCell b c) 0 false ∗ dutyTok EX (recvCell b (peer b c)) 0 false)
/-- All of a device's places and rights: the two sides, its place at its barrier, the units for its peers' barriers. -/
def linear (c : Dev nD) : sProp 𝕄 :=
  iprop((side false c ∗ side true c) ∗ atPos EX (barCell c) 0 ∅ 0
    ∗ dutyTok EX (barCell (peer false c)) 0 false ∗ dutyTok EX (barCell (peer true c)) 0 true)
/-- The credit of the waits on what the peers pay. -/
def credits (c : Dev nD) : sProp 𝕄 :=
  iprop(cred (tallyAt (barCell c) () 2) ∗ cred (tallyAt (recvCell false c) () N) ∗ cred (tallyAt (recvCell true c) () N))

/-- The staged input block of device `c`, whole. -/
def block (c : Dev nD) : sProp 𝕄 := ((c : Thread nD τ).loc cc0_stg0_0) ↦{fullShare} xstg m ρ c

/-! ## The three stretches -/

/-- After the first stretch: the own block stored, both peers' rows in hand, two copies owed. -/
def stored (c : Dev nD) (W : Waits sig Unit) : sProp 𝕄 :=
  iprop(held c (blockSet c) (gathered m ρ c) ∗ block m ρ c ∗ barPay false c ∗ barPay true c
    ∗ owes (c : Thread nD τ) (oweCopies c) W ∗ atPos EX (barCell c) (0 + 1) ∅ 0)

omit [FloatOps F] in
theorem dev1_eq (c : Dev nD) : (⟨k0_dev1 c, k0_dev1_lt c⟩ : Dev nD) = peer false c := rfl
omit [FloatOps F] in
theorem dev2_eq (c : Dev nD) : (⟨k0_dev2 c, k0_dev2_lt c⟩ : Dev nD) = peer true c := rfl

/-- The first stretch: greet the near and the far peer, wait for both greetings, store the own block. -/
theorem sound_part1 (c : Dev nD) (f : (cc0_stg1_0 : Ref sig .tc).ty.Contents (Elt F)) (W : Waits sig Unit) (R : sProp 𝕄)
    (Kt : (Σ' (d0 : Dev nD) (v2 : BitVec 32) (v6 : BitVec 32) (v7 : BitVec 32) (v8 : BitVec 32) (v26 : BitVec 32), BitVec 32) → sProp 𝕄)
    (hK : ∀ v2 v6 v7 v8 v26 k, iprop(stored m ρ c (insert (SemLoc.reg barS, ()) W) ∗ R) ⊢ Kt ⟨c, v2, v6, v7, v8, v26, k⟩) :
    iprop((records m ρ K ∗ levAts L lv) ∗ (held c Finset.univ f ∗ block m ρ c)
        ∗ (dutyTok EX (barCell (peer false c)) 0 false ∗ dutyTok EX (barCell (peer true c)) 0 true)
        ∗ (cred (tallyAt (barCell c) () 2) ∗ atPos EX (barCell c) 0 ∅ 0) ∗ owes (c : Thread nD τ) (oweAll c) W ∗ R)
      ⊢ wp frame (wpE (defs₀ (F := F)) 𝒱₀ c none) Set.univ
          (k0_part1 (Memref.whole cc0_stg0_0) (Memref.isWhole_whole _) (Memref.whole cc0_stg1_0) (Memref.isWhole_whole _)
            cc0_scratch0 cc0_scratch1) Kt := by
  simp only [k0_part1_eq_skeleton]; unfold k0_part1_skel
  simp only [semSignalWord, semWaitWord, Prog.lift, Prog.bind_op, Prog.bind_ret, Prog.pure_eq_ret, wp_deviceId, dev1_eq, dev2_eq]
  iintro ⟨⟨#HR, #HL⟩, ⟨Hf, Hx⟩, ⟨Hd0, Hd1⟩, ⟨Hc, Hat⟩, HO, HK⟩
  ihave H := ((held_rows c f).1) $$ Hf
  icases H with ⟨⟨Hown, Hnear⟩, Hfar⟩
  -- the near peer's unit, with the rows it is to fill
  unfold oweAll
  iapply (wp_greet m ρ false c (K (peer false c, none)) f (oweFar c) W) $$ [HO Hd0 Hnear]
  · isplitr; · iapply (inv_bar m ρ K (peer false c)); iexact HR
    isplitl [HO]; · iexact HO
    isplitl [Hd0]; · iexact Hd0
    isplitl [Hnear]
    · isplitl [Hnear]; · iexact Hnear
      iapply (open_recv m ρ K false c); iexact HR
    iapply (open_bar m ρ K (peer false c)); iexact HR
  iintro HO
  -- the far peer's
  unfold oweFar
  iapply (wp_greet m ρ true c (K (peer true c, none)) f (oweCopies c) W) $$ [HO Hd1 Hfar]
  · isplitr; · iapply (inv_bar m ρ K (peer true c)); iexact HR
    isplitl [HO]; · iexact HO
    isplitl [Hd1]; · iexact Hd1
    isplitl [Hfar]
    · isplitl [Hfar]; · iexact Hfar
      iapply (open_recv m ρ K true c); iexact HR
    iapply (open_bar m ρ K (peer true c)); iexact HR
  iintro HO
  -- both peers' units
  iapply (wp_await_peers m ρ c (K (c, none)) W) $$ [HO Hc Hat]
  · isplitr; · iapply (inv_bar m ρ K c); iexact HR
    isplitl [Hc]; · iexact Hc
    isplitl [HO]; · iexact HO
    isplitr; · iexact HL
    iexact Hat
  iintro ⟨HO, Hat, Hp0, Hp1⟩
  -- the own block, read and stored
  unfold block held
  iapply (wp_load 𝒱₀ (c : Thread nD τ) none Set.univ (m := xM) (Finset.subset_univ _)) $$ Hx; iintro Hx
  rw [read_block]
  iapply (wp_load_rect 𝒱₀ (c : Thread nD τ) none Set.univ (m := oM) (r := blockR c) (S := blockSet c) (Finset.Subset.refl _)) $$ Hown; iintro Hown
  iapply (wp_store 𝒱₀ (c : Thread nD τ) none Set.univ (m := oM) (r := blockR c) (Mk := Finset.univ) (S := blockSet c) (Finset.Subset.refl _)) $$ Hown
  iintro Hown
  rw [stored_eq, wp_ret]; imodintro
  iapply (hK _ _ _ _ _ _)
  isplitr [HK]
  · unfold stored
    isplitl [Hown]; · iapply (Entails.of_eq (held_congr (F := F) c (store_block m ρ c f))); unfold held; iexact Hown
    isplitl [Hx]; · unfold block; iexact Hx
    isplitl [Hp0]; · iexact Hp0
    isplitl [Hp1]; · iexact Hp1
    isplitl [HO]; · iexact HO
    iexact Hat
  iexact HK

/-- One side finished: the sent half back, the peer's half arrived, the two counters past their round. -/
def exchanged (b : Bool) (c : Dev nD) : sProp 𝕄 :=
  iprop((sendPay m ρ b c ∗ recvPay m ρ b c) ∗ atPos EX (sendCell b c) (0 + 1) ∅ 0 ∗ atPos EX (recvCell b c) (0 + 1) ∅ 0)
/-- One side under way: the half sent, credit for both waits. -/
def underWay (b : Bool) (c : Dev nD) : sProp 𝕄 :=
  iprop((atPos EX (sendCell b c) 0 ∅ 0 ∗ atPos EX (recvCell b c) 0 ∅ 0)
    ∗ cred (tallyAt (sendCell b c) () N) ∗ cred (tallyAt (recvCell b c) () N))
/-- The waits recorded once side `b` is finished. -/
abbrev waited (b : Bool) (W : Waits sig Unit) : Waits sig Unit := insert (SemLoc.dma (recvQ b), ()) (insert (SemLoc.dma (sendQ b), ()) W)

/-- The second stretch: send the near half and the far half, then finish the near side. -/
theorem sound_part2 (c : Dev nD) (v2 v6 v7 v8 v26 k : BitVec 32) (W : Waits sig Unit) (R : sProp 𝕄) (Kt : PUnit → sProp 𝕄)
    (hK : iprop((exchanged m ρ false c ∗ underWay true c ∗ owes (c : Thread nD τ) 0 (waited false W)) ∗ R) ⊢ Kt ⟨⟩) :
    iprop(records m ρ K ∗ (held c (blockSet c) (gathered m ρ c) ∗ barPay false c ∗ barPay true c)
        ∗ (side false c ∗ side true c) ∗ (cred (tallyAt (recvCell false c) () N) ∗ cred (tallyAt (recvCell true c) () N))
        ∗ owes (c : Thread nD τ) (oweCopies c) W ∗ R)
      ⊢ wp frame (wpE (defs₀ (F := F)) 𝒱₀ c none) Set.univ
          (k0_part2 (Memref.whole cc0_stg0_0) (Memref.isWhole_whole _) (Memref.whole cc0_stg1_0) (Memref.isWhole_whole _)
            cc0_scratch0 cc0_scratch1 c v2 v6 v7 v8 v26 k) Kt := by
  simp only [k0_part2_eq_skeleton]; unfold k0_part2_skel
  simp only [Prog.lift, Prog.bind_op, Prog.bind_ret, Prog.pure_eq_ret]
  unfold side barPay
  iintro ⟨#HR, ⟨Hown, ⟨⟨%f0, Hp0⟩, -⟩, ⟨%f1, Hp1⟩, -⟩, ⟨⟨HaS0, HaV0, HtS0, HtV0⟩, HaS1, HaV1, HtS1, HtV1⟩, ⟨HcV0, HcV1⟩, HO, HK⟩
  ihave H := ((held_halves c (gathered m ρ c)).1) $$ Hown
  icases H with ⟨Hh0, Hh1⟩
  -- the near half
  unfold oweCopies
  iapply (wp_copy m ρ false c _ (dev3_eq c) (hsrc := half_words false c) (hdst := half_words false c) (K (c, some (false, false))) (K (peer false c, some (true, false))) f0
      (tallyAt (recvCell true (peer true c)) () N) W) $$ [Hh0 Hp0 HO HtS0 HtV0]
  · isplitr; · iapply (inv_send m ρ K false c); iexact HR
    isplitr; · iapply (inv_recv m ρ K false (peer false c)); iexact HR
    isplitl [Hh0]; · iexact Hh0
    isplitl [Hp0]; · iexact Hp0
    isplitl [HO]; · iexact HO
    isplitl [HtS0]; · iexact HtS0
    isplitr; · iapply (open_send m ρ K false c); iexact HR
    isplitl [HtV0]; · iexact HtV0
    iapply (open_recv m ρ K false (peer false c)); iexact HR
  iintro ⟨HcS0, HO⟩
  -- the far half
  rw [← zero_add (tallyAt (recvCell true (peer true c)) () N : CellTallies nD τ sig Unit)]
  iapply (wp_copy m ρ true c _ (dev4_eq c) (hsrc := half_words true c) (hdst := half_words true c)
       (K (c, some (false, true))) (K (peer true c, some (true, true))) f1 0 W)
    $$ [Hh1 Hp1 HO HtS1 HtV1]
  · isplitr; · iapply (inv_send m ρ K true c); iexact HR
    isplitr; · iapply (inv_recv m ρ K true (peer true c)); iexact HR
    isplitl [Hh1]; · iexact Hh1
    isplitl [Hp1]; · iexact Hp1
    isplitl [HO]; · iexact HO
    isplitl [HtS1]; · iexact HtS1
    isplitr; · iapply (open_send m ρ K true c); iexact HR
    isplitl [HtV1]; · iexact HtV1
    iapply (open_recv m ρ K true (peer true c)); iexact HR
  iintro ⟨HcS1, HO⟩
  -- the near side's two waits
  iapply (wp_await_copy m ρ false c (sendQ false) (K (c, some (false, false))) (P := sendPay m ρ false c)
      W (expect_send m ρ false c) (brings_send m ρ false c)) $$ [HcS0 HO HaS0]
  · isplitr; · iapply (inv_send m ρ K false c); iexact HR
    isplitl [HcS0]; · iexact HcS0
    isplitl [HO] <;> iassumption
  iintro ⟨HO, HaS0, HpS⟩
  iapply (wp_await_copy m ρ false c (recvQ false) (K (c, some (true, false))) (P := recvPay m ρ false c)
      _ (expect_recv m ρ false c) (brings_recv m ρ false c)) $$ [HcV0 HO HaV0]
  · isplitr; · iapply (inv_recv m ρ K false c); iexact HR
    isplitl [HcV0]; · iexact HcV0
    isplitl [HO] <;> iassumption
  iintro ⟨HO, HaV0, HpV⟩
  rw [wp_ret]; imodintro
  iapply hK
  isplitr [HK]
  · unfold exchanged underWay
    isplitl [HpS HpV HaS0 HaV0]
    · isplitl [HpS HpV]
      · isplitl [HpS] <;> iassumption
      isplitl [HaS0] <;> iassumption
    isplitl [HaS1 HaV1 HcS1 HcV1]
    · isplitl [HaS1 HaV1]
      · isplitl [HaS1] <;> iassumption
      isplitl [HcS1] <;> iassumption
    iexact HO
  iexact HK

omit [FloatOps F] in
/-- The sent halves come back and both peers' halves are in: the whole result is gathered. -/
theorem joined (c : Dev nD) :
    iprop((sendPay m ρ false c ∗ recvPay m ρ false c) ∗ sendPay m ρ true c ∗ recvPay m ρ true c)
      ⊢ held c Finset.univ (gathered m ρ c) := by
  unfold sendPay recvPay
  have h : iprop((held c (halfSet false c) (gathered m ρ c) ∗ held c (halfSet false (peer false c)) (gathered m ρ c))
        ∗ held c (halfSet true c) (gathered m ρ c) ∗ held c (halfSet true (peer true c)) (gathered m ρ c))
      ⊢ iprop((held c (blockSet c) (gathered m ρ c) ∗ held c (halfSet false (peer false c)) (gathered m ρ c))
        ∗ held c (halfSet true (peer true c)) (gathered m ρ c)) := by
    iintro ⟨⟨Hs0, Hv0⟩, Hs1, Hv1⟩
    isplitr [Hv1]
    · isplitr [Hv0]
      · iapply ((held_halves c (gathered m ρ c)).2)
        isplitl [Hs0] <;> iassumption
      iexact Hv0
    iexact Hv1
  exact h.trans (held_rows c (gathered m ρ c)).2

/-- A device's five counters, all at zero. -/
def quiet (c : Dev nD) : sProp 𝕄 :=
  iprop((semVal (sendCell false c) 0 ∗ semVal (sendCell true c) 0 ∗ semVal (recvCell false c) 0 ∗ semVal (recvCell true c) 0)
    ∗ semVal (barCell c) 0)

/-- What a device needs at the start, its counters' names given. -/
def bodyPre (c : Dev nD) (f : (cc0_stg1_0 : Ref sig .tc).ty.Contents (Elt F)) (W : Waits sig Unit) : sProp 𝕄 :=
  iprop((records m ρ K ∗ linear c) ∗ credits c ∗ levAts L lv
    ∗ (held c Finset.univ f ∗ block m ρ c) ∗ owes (c : Thread nD τ) (oweAll c) W)
/-- What it has at the end. -/
def bodyPost (c : Dev nD) : sProp 𝕄 :=
  iprop(quiet c ∗ (held c Finset.univ (gathered m ρ c) ∗ block m ρ c) ∗ ∃ W, owes (c : Thread nD τ) 0 W)

/-- The third stretch: finish the far side, put the counters away, join the rows. -/
theorem sound_part3 (c : Dev nD) (W : Waits sig Unit) :
    iprop((exchanged m ρ false c ∗ underWay true c ∗ owes (c : Thread nD τ) 0 W)
        ∗ records m ρ K ∗ block m ρ c ∗ atPos EX (barCell c) (0 + 1) ∅ 0)
      ⊢ wp frame (wpE (defs₀ (F := F)) 𝒱₀ c none) Set.univ
          (Prog.lift (.waitDma2 (sendQ true) (halfM true c) (halfM true c) (half_words true c) (half_words true c)) >>= fun _ =>
            Prog.lift (.waitDma2 (recvQ true) (halfM true c) (halfM true c) (half_words true c) (half_words true c)) >>= fun _ =>
              pure PUnit.unit)
          (fun _ => bodyPost m ρ c) := by
  unfold exchanged underWay
  simp only [Prog.lift, Prog.bind_op, Prog.bind_ret, Prog.pure_eq_ret]
  iintro ⟨⟨⟨Hh0, HaS0, HaV0⟩, ⟨⟨HaS1, HaV1⟩, HcS1, HcV1⟩, HO⟩, #HR, Hx, HaB⟩
  -- the far side's two waits
  iapply (wp_await_copy m ρ true c (sendQ true) (K (c, some (false, true))) (P := sendPay m ρ true c)
      _ (expect_send m ρ true c) (brings_send m ρ true c)) $$ [HcS1 HO HaS1]
  · isplitr; · iapply (inv_send m ρ K true c); iexact HR
    isplitl [HcS1]; · iexact HcS1
    isplitl [HO] <;> iassumption
  iintro ⟨HO, HaS1, HpS⟩
  iapply (wp_await_copy m ρ true c (recvQ true) (K (c, some (true, true))) (P := recvPay m ρ true c)
      _ (expect_recv m ρ true c) (brings_recv m ρ true c)) $$ [HcV1 HO HaV1]
  · isplitr; · iapply (inv_recv m ρ K true c); iexact HR
    isplitl [HcV1]; · iexact HcV1
    isplitl [HO] <;> iassumption
  iintro ⟨HO, HaV1, HpV⟩
  -- the five counters
  imod (put_away m ρ (sendCell false c) (K (c, some (false, false)))) $$ [HaS0] with Hs0
  · isplitr; · iapply (inv_send m ρ K false c); iexact HR
    iexact HaS0
  imod (put_away m ρ (sendCell true c) (K (c, some (false, true)))) $$ [HaS1] with Hs1
  · isplitr; · iapply (inv_send m ρ K true c); iexact HR
    iexact HaS1
  imod (put_away m ρ (recvCell false c) (K (c, some (true, false)))) $$ [HaV0] with Hv0
  · isplitr; · iapply (inv_recv m ρ K false c); iexact HR
    iexact HaV0
  imod (put_away m ρ (recvCell true c) (K (c, some (true, true)))) $$ [HaV1] with Hv1
  · isplitr; · iapply (inv_recv m ρ K true c); iexact HR
    iexact HaV1
  imod (put_away m ρ (barCell c) (K (c, none))) $$ [HaB] with Hb
  · isplitr; · iapply (inv_bar m ρ K c); iexact HR
    iexact HaB
  rw [wp_ret]; imodintro
  unfold bodyPost quiet
  isplitl [Hs0 Hs1 Hv0 Hv1 Hb]
  · isplitr [Hb]
    · isplitl [Hs0]; · iexact Hs0
      isplitl [Hs1]; · iexact Hs1
      isplitl [Hv0] <;> iassumption
    iexact Hb
  isplitr [HO]
  · isplitr [Hx]
    · iapply (joined m ρ c)
      isplitl [Hh0]; · iexact Hh0
      isplitl [HpS] <;> iassumption
    iexact Hx
  iexists _; iexact HO

/-- The kernel body, from start to end. -/
theorem sound_body (c : Dev nD) (f : (cc0_stg1_0 : Ref sig .tc).ty.Contents (Elt F)) (W : Waits sig Unit) :
    bodyPre m ρ K c f W ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1) (fun _ => bodyPost m ρ c) := by
  simp only [cc0_body_eq_skeleton]; unfold cc0_body_skel
  rw [wp_bind]
  have h₁ : bodyPre m ρ K c f W ⊢ iprop((records m ρ K ∗ levAts L lv) ∗ (held c Finset.univ f ∗ block m ρ c)
        ∗ (dutyTok EX (barCell (peer false c)) 0 false ∗ dutyTok EX (barCell (peer true c)) 0 true)
        ∗ (cred (tallyAt (barCell c) () 2) ∗ atPos EX (barCell c) 0 ∅ 0) ∗ owes (c : Thread nD τ) (oweAll c) W
        ∗ records m ρ K ∗ (side false c ∗ side true c) ∗ cred (tallyAt (recvCell false c) () N) ∗ cred (tallyAt (recvCell true c) () N)) := by
    unfold bodyPre linear credits
    iintro ⟨⟨#HR, Hside, HaB, Htok⟩, ⟨HcB, HcV⟩, #HL, ⟨Hf, Hx⟩, HO⟩
    isplitr
    · isplitr <;> iassumption
    isplitl [Hf Hx]
    · isplitl [Hf] <;> iassumption
    isplitl [Htok]; · iexact Htok
    isplitl [HcB HaB]
    · isplitl [HcB] <;> iassumption
    isplitl [HO]; · iexact HO
    isplitr; · iexact HR
    isplitl [Hside] <;> iassumption
  refine h₁.trans (sound_part1 m ρ K c f W _ _ fun v2 v6 v7 v8 v26 k => ?_)
  dsimp only
  rw [wp_bind]
  have h₂ (W : Waits sig Unit) : iprop(stored m ρ c W
        ∗ records m ρ K ∗ (side false c ∗ side true c) ∗ cred (tallyAt (recvCell false c) () N) ∗ cred (tallyAt (recvCell true c) () N))
      ⊢ iprop(records m ρ K ∗ (held c (blockSet c) (gathered m ρ c) ∗ barPay false c ∗ barPay true c)
        ∗ (side false c ∗ side true c) ∗ (cred (tallyAt (recvCell false c) () N) ∗ cred (tallyAt (recvCell true c) () N))
        ∗ owes (c : Thread nD τ) (oweCopies c) W ∗ records m ρ K ∗ block m ρ c ∗ atPos EX (barCell c) (0 + 1) ∅ 0) := by
    unfold stored
    iintro ⟨⟨Hown, Hx, Hp0, Hp1, HO, HaB⟩, #HR, Hside, HcV⟩
    isplitr; · iexact HR
    isplitl [Hown Hp0 Hp1]
    · isplitl [Hown]; · iexact Hown
      isplitl [Hp0] <;> iassumption
    isplitl [Hside]; · iexact Hside
    isplitl [HcV]; · iexact HcV
    isplitl [HO]; · iexact HO
    isplitr; · iexact HR
    isplitl [Hx] <;> iassumption
  refine (h₂ _).trans (sound_part2 m ρ K c v2 v6 v7 v8 v26 k _ _ _ ?_)
  exact sound_part3 m ρ K c _

end Cert.KernelIdeal.Exchange

end
-- ==== Proof.KernelIdealLaunch.lean ====
/-
The launch: from the memory before the call to the run of all four devices.

The launch deals every device its places at its counters and the rights to pay; the rights are then exchanged along the two
sides, so that each device holds those it pays with. The body theorem, one device at a time, does the rest.
-/
module

public import proofs.«01_k».proof.Proof.KernelIdealBody
public import Idealize.ShloMosaic.Lib.Pipeline.ValueKit.Geometry
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.Pipeline (Dat BodyObligation Cfg)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The staging around the body -/

/-- What device `c`'s body starts from, besides its staged operands. -/
def start (c : Dev nD) : sProp 𝕄 := iprop((∃ K, records m ρ K ∗ linear c) ∗ credits c ∗ levAts L lv)

/-- The staging's data: the arrays before the call, what the body leaves staged, what it holds and owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gathered m ρ c
  Φ t := match t with
    | ⟨0, _⟩ => start m ρ c
    | ⟨_ + 1, _⟩ => quiet c
  q _ := fullShare
  owed t := match t with
    | ⟨0, _⟩ => oweAll c
    | ⟨_ + 1, _⟩ => 0

omit [FloatOps F] in
/-- A whole staging buffer owned at `X` is its memory at `X`. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      ⊣⊢ (((c : Thread nD τ).loc b) ↦{fullShare} X) := by
  unfold owns
  simp only [Memref.view_whole, View.read_whole, View.set_whole]
  constructor
  · iintro ⟨%f, %h, H⟩; subst h; iexact H
  · iintro H; iexists X; isplitr; · (ipureintro; rfl)
    iexact H

omit [FloatOps F] in
/-- The staged input is the device's block when the body starts. -/
theorem staged_in (c : Dev nD) (t : Fin cfg0.N) (d) : (dats (F := F) m ρ 0 c).before (0 : Fin 2) t d = xstg m ρ c := by
  unfold Dat.before; rw [if_pos (fetch0_0 t), fin_N0 t]; rfl

/-- The body meets what the staging asks of it. -/
theorem body_ok (c : Dev nD) : BodyObligation (dats (F := F) m ρ 0 c) (defs₀ (F := F)) 𝒱₀ () Set.univ := fun t => by
  rw [fin_N0 t, bigSep_W0, bigSep_W0]
  have hpost : bodyPost m ρ c ⊢ iprop(quiet c ∗ (dats m ρ 0 c).owesAt () t0_0.succ
      ∗ owns (c : Thread nD τ) (Memref.whole cc0_stg0_0) fullShare (xstg m ρ c)
      ∗ owns (c : Thread nD τ) (Memref.whole cc0_stg1_0) fullShare (gathered m ρ c)) := by
    unfold bodyPost Dat.owesAt Pipeline.owesWithin
    iintro ⟨Hq, ⟨Hout, Hx⟩, ⟨%W, HO⟩⟩
    isplitl [Hq]; · iexact Hq
    isplitl [HO]
    · iexists W; isplitr; · (ipureintro; exact fun _ _ => Or.inl trivial)
      iexact HO
    isplitl [Hx]
    · iapply ((owns_staged c cc0_stg0_0 (xstg m ρ c)).2); unfold block; iexact Hx
    · iapply ((owns_staged c cc0_stg1_0 (gathered m ρ c)).2); unfold held; iexact Hout
  show iprop(start m ρ c ∗ (dats m ρ 0 c).owesAt () t0_0.castSucc
      ∗ (∃ d, owns (c : Thread nD τ) (Memref.whole cc0_stg0_0) fullShare ((dats m ρ 0 c).before (0 : Fin 2) t0_0 d))
      ∗ (∃ d, owns (c : Thread nD τ) (Memref.whole cc0_stg1_0) fullShare ((dats m ρ 0 c).before (1 : Fin 2) t0_0 d)))
    ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1) (fun _ => iprop(quiet c ∗ (dats m ρ 0 c).owesAt () t0_0.succ
      ∗ owns (c : Thread nD τ) (Memref.whole cc0_stg0_0) fullShare (xstg m ρ c)
      ∗ owns (c : Thread nD τ) (Memref.whole cc0_stg1_0) fullShare (gathered m ρ c)))
  unfold start Dat.owesAt Pipeline.owesWithin
  iintro ⟨⟨⟨%K, HR⟩, Hc, HL⟩, ⟨%W, -, HO⟩, ⟨%d0, Hx⟩, ⟨%d1, Hout⟩⟩
  iapply (wp_mono frame (wpE (defs₀ (F := F)) 𝒱₀ (c : Thread nD τ) none) Set.univ (fun _ => hpost))
  iapply (sound_body m ρ K c ((dats m ρ 0 c).before (1 : Fin 2) t0_0 d1) W)
  unfold bodyPre
  isplitl [HR]; · iexact HR
  isplitl [Hc]; · iexact Hc
  isplitl [HL]; · iexact HL
  isplitr [HO]
  · isplitl [Hout]
    · unfold held; iapply ((owns_staged c cc0_stg1_0 _).1); iexact Hout
    · unfold block; iapply ((owns_staged c cc0_stg0_0 (xstg m ρ c)).1)
      rw [staged_in]; iexact Hx
  iexact HO

/-! ## The counters and the rights to pay, as the launch makes them -/

/-- The body's own counters: the two send and the two receive ones. -/
abbrev ownSem : Fin 4 → SemLoc sig
  | 0 => .dma (sendQ false) | 1 => .dma (sendQ true) | 2 => .dma (recvQ false) | 3 => .dma (recvQ true)
theorem ownSem_facts : Pipeline.OwnSemFacts cfg0.spec ownSem := by decide

theorem csem_injective : Function.Injective csem := by decide
theorem kcell_injective : Function.Injective (kcell : Dev nD × Counter → GSem nD τ sig) := by
  rintro ⟨c, k⟩ ⟨d, l⟩ h
  have hd : c = d := congrArg (fun g : GSem nD τ sig => g.1.1) h
  have hk : k = l := csem_injective (congrArg Prod.snd h)
  rw [hd, hk]
def allCells : Finset (GSem nD τ sig) := Finset.univ.map ⟨kcell, kcell_injective⟩

/-- A device's payments on one side: its peer's barrier unit (`none`), and what is paid at its own send (`some false`) and
    receive (`some true`) counters. -/
abbrev Payment := Bool × Option Bool
abbrev payCounter : Payment → Counter × Bool
  | (b, none) => (none, b)
  | (b, some s) => (some (s, b), false)
theorem payCounter_injective : Function.Injective payCounter := by decide
abbrev right (cp : Dev nD × Payment) : GSem nD τ sig × ℕ × Bool := (kcell (cp.1, (payCounter cp.2).1), 0, (payCounter cp.2).2)
theorem right_injective : Function.Injective right := by
  rintro ⟨c, p⟩ ⟨d, q⟩ h
  have h1 := kcell_injective (congrArg Prod.fst h)
  have h2 : (payCounter p).2 = (payCounter q).2 := congrArg (fun x : GSem nD τ sig × ℕ × Bool => x.2.2) h
  have hd : c = d := congrArg Prod.fst h1
  have hp : p = q := payCounter_injective (Prod.ext (congrArg Prod.snd h1) h2)
  rw [hd, hp]
def allRights : Finset (GSem nD τ sig × ℕ × Bool) := Finset.univ.map ⟨right, right_injective⟩

/-- The launch's element: the staging's, and the exchange's. -/
def u₀ : UU :=
  (initOf (Pipeline.cells cfgs cellOf_inj) (Pipeline.launchToks cfgs cellOf_inj), initOf allCells allRights)

/-- The rights on one side to pay at device `c`'s own counters. -/
def minted (b : Bool) (c : Dev nD) : sProp 𝕄 :=
  iprop(dutyTok EX (barCell c) 0 b ∗ dutyTok EX (sendCell b c) 0 false ∗ dutyTok EX (recvCell b c) 0 false)

/-- What the launch deals device `c`. -/
def dealt (c : Dev nD) : sProp 𝕄 :=
  iprop((bigSep Finset.univ fun k : Counter => roundState EX (plan m ρ) (kcell (c, k)) 0)
    ∗ (bigSep Finset.univ fun k : Counter => reached EX (kcell (c, k)) 0)
    ∗ (bigSep Finset.univ fun k : Counter => atPos EX (kcell (c, k)) 0 ∅ 0) ∗ minted false c ∗ minted true c)
/-- What device `c` has once the rights are exchanged. -/
def ready (c : Dev nD) : sProp 𝕄 := iprop(∃ K, records m ρ K ∗ linear c)

omit [FloatOps F] in
theorem bigSep_counter (Φ : Counter → sProp 𝕄) :
    bigSep Finset.univ Φ = iprop(Φ (some (false, false)) ∗ Φ (some (false, true)) ∗ Φ (some (true, false)) ∗ Φ (some (true, true)) ∗ Φ none) :=
  bigSep_univ_eq_bigSepL [some (false, false), some (false, true), some (true, false), some (true, true), none] (by decide) (by decide) Φ
omit [FloatOps F] in
theorem bigSep_payment (Φ : Payment → sProp 𝕄) :
    bigSep Finset.univ Φ = iprop(Φ (false, none) ∗ Φ (false, some false) ∗ Φ (false, some true)
      ∗ Φ (true, none) ∗ Φ (true, some false) ∗ Φ (true, some true)) :=
  bigSep_univ_eq_bigSepL [(false, none), (false, some false), (false, some true), (true, none), (true, some false), (true, some true)]
    (by decide) (by decide) Φ

omit [FloatOps F] in
theorem over_cells (Φ : GSem nD τ sig → sProp 𝕄) :
    bigSep allCells Φ = bigSep Finset.univ fun c : Dev nD => bigSep Finset.univ fun k : Counter => Φ (kcell (c, k)) := by
  unfold allCells; rw [bigSep_map, bigSep_univ_prod]; rfl

omit [FloatOps F] in
theorem over_rights : bigSep allRights (fun x => (dutyTok EX x.1 x.2.1 x.2.2 : sProp 𝕄))
    ⊢ bigSep Finset.univ fun c : Dev nD => iprop(minted false c ∗ minted true c) := by
  have h (c : Dev nD) : iprop(dutyTok EX (barCell c) 0 false ∗ dutyTok EX (sendCell false c) 0 false ∗ dutyTok EX (recvCell false c) 0 false
        ∗ dutyTok EX (barCell c) 0 true ∗ dutyTok EX (sendCell true c) 0 false ∗ dutyTok EX (recvCell true c) 0 false)
      ⊢ (iprop(minted false c ∗ minted true c) : sProp 𝕄) := by
    unfold minted
    iintro ⟨H1, H2, H3, H4, H5, H6⟩
    isplitl [H1 H2 H3]
    · isplitl [H1]; · iexact H1
      isplitl [H2] <;> iassumption
    isplitl [H4]; · iexact H4
    isplitl [H5] <;> iassumption
  unfold allRights; rw [bigSep_map, bigSep_univ_prod]
  exact bigSep_mono fun c _ => by rw [bigSep_payment]; exact h c

omit [FloatOps F] in
/-- The exchange's element makes what the launch deals. -/
theorem fund_all : BI.own (EX (initOf allCells allRights)) ⊢ (|==> bigSep Finset.univ (dealt m ρ) : sProp 𝕄) := by
  iintro H
  imod (Rounds.fund EX (plan m ρ) allCells allRights) $$ H with ⟨Hst, Hr, Hat, Htok⟩
  imodintro
  ihave Hst' := (Entails.of_eq (over_cells fun g => roundState EX (plan m ρ) g 0)) $$ Hst
  ihave Hat' := (Entails.of_eq (over_cells fun g => atPos EX g 0 ∅ 0)) $$ Hat
  ihave Hr' := (Entails.of_eq (over_cells fun g => reached EX g 0)) $$ Hr
  ihave Htok' := (over_rights (F := F)) $$ Htok
  unfold dealt; simp only [bigSep_sep']
  isplitl [Hst']; · iexact Hst'
  isplitl [Hr']; · iexact Hr'
  isplitl [Hat']; · iexact Hat'
  iexact Htok'

omit [FloatOps F] in
theorem own_sems (c : Dev nD) : (Pipeline.ownSems0 (Ix := Unit) (Name := ℕ) (U := UU) (Lvl := ℕ) (Val := Elt F) (τ := τ) ownSem c : sProp 𝕄)
    = iprop(semVal (sendCell false c) 0 ∗ semVal (sendCell true c) 0 ∗ semVal (recvCell false c) 0 ∗ semVal (recvCell true c) 0) := by
  rw [Pipeline.ownSems0_eq_of_list c ownSem [0, 1, 2, 3] (by decide) (by decide)]; rfl
omit [FloatOps F] in
theorem other_sems (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters, all at zero, are its own and the barrier. -/
theorem quiet_eq (c : Dev nD) : (quiet c : sProp 𝕄)
    = iprop(Pipeline.ownSems0 (Ix := Unit) (Name := ℕ) (U := UU) (Lvl := ℕ) (Val := Elt F) (τ := τ) ownSem c ∗ unscopedSems0 c) := by
  rw [own_sems, other_sems]; rfl

omit [FloatOps F] in
theorem quiet_counters (c : Dev nD) : (quiet c : sProp 𝕄) ⊢ bigSep Finset.univ fun k : Counter => semVal (kcell (c, k)) 0 := by
  rw [bigSep_counter]; unfold quiet
  iintro ⟨⟨H1, H2, H3, H4⟩, H5⟩
  isplitl [H1]; · iexact H1
  isplitl [H2]; · iexact H2
  isplitl [H3]; · iexact H3
  isplitl [H4]; · iexact H4
  iexact H5

omit [FloatOps F] in
/-- A counter at zero, its round not begun, is put under the plan. -/
theorem put_up (g : GSem nD τ sig) : iprop(semVal g 0 ∗ roundState EX (plan m ρ) g 0) ⊢ |={Set.univ}=> iprop(∃ κ : ℕ, cellInv EX (plan m ρ) κ g) :=
  (Rounds.body_intro EX (plan m ρ) g).trans inv_alloc

omit [FloatOps F] in
theorem put_up_all (c : Dev nD) :
    iprop(Pipeline.ownSems0 (Ix := Unit) (Name := ℕ) (U := UU) (Lvl := ℕ) (Val := Elt F) (τ := τ) ownSem c ∗ unscopedSems0 c ∗ dealt m ρ c)
      ⊢ |={Set.univ}=> iprop((bigSep Finset.univ fun k : Counter => iprop(∃ κ : ℕ, cellInv EX (plan m ρ) κ (kcell (c, k)) ∗ reached EX (kcell (c, k)) 0))
          ∗ (bigSep Finset.univ fun k : Counter => atPos EX (kcell (c, k)) 0 ∅ 0) ∗ minted false c ∗ minted true c) := by
  have hput : iprop(quiet c ∗ bigSep Finset.univ fun k : Counter => roundState EX (plan m ρ) (kcell (c, k)) 0)
      ⊢ (|={Set.univ}=> bigSep Finset.univ fun k : Counter => iprop(∃ κ : ℕ, cellInv EX (plan m ρ) κ (kcell (c, k))) : sProp 𝕄) := by
    refine (sep_mono_left (quiet_counters c)).trans ?_
    rw [← bigSep_sep']
    exact (bigSep_mono fun k _ => put_up m ρ (kcell (c, k))).trans (bigSep_fupd _ _)
  have hwith : iprop((bigSep Finset.univ fun k : Counter => iprop(∃ κ : ℕ, cellInv EX (plan m ρ) κ (kcell (c, k))))
        ∗ bigSep Finset.univ fun k : Counter => reached EX (kcell (c, k)) 0)
      ⊢ (bigSep Finset.univ fun k : Counter => iprop(∃ κ : ℕ, cellInv EX (plan m ρ) κ (kcell (c, k)) ∗ reached EX (kcell (c, k)) 0) : sProp 𝕄) := by
    have hk (k : Counter) : iprop((∃ κ : ℕ, cellInv EX (plan m ρ) κ (kcell (c, k))) ∗ reached EX (kcell (c, k)) 0)
        ⊢ (iprop(∃ κ : ℕ, cellInv EX (plan m ρ) κ (kcell (c, k)) ∗ reached EX (kcell (c, k)) 0) : sProp 𝕄) := by
      iintro ⟨⟨%κ, H⟩, R⟩
      iexists κ
      isplitl [H] <;> iassumption
    rw [← bigSep_sep']
    exact bigSep_mono fun k _ => hk k
  unfold dealt
  iintro ⟨Hos, Hus, Hst, Hr, Hat, Htok⟩
  imod hput $$ [Hos Hus Hst] with Hinv
  · isplitl [Hos Hus]
    · rw [quiet_eq]; isplitl [Hos] <;> iassumption
    iexact Hst
  imodintro
  isplitl [Hinv Hr]
  · iapply hwith
    isplitl [Hinv] <;> iassumption
  isplitl [Hat] <;> iassumption

omit [FloatOps F] in
/-- The rights exchanged along one side: each device gives away those at its barrier and its receive counter there. -/
theorem swap_rights (b : Bool) : (bigSep Finset.univ fun c : Dev nD => (minted b c : sProp 𝕄))
    ⊢ bigSep Finset.univ fun c : Dev nD => iprop(dutyTok EX (barCell (peer b c)) 0 b
        ∗ dutyTok EX (sendCell b c) 0 false ∗ dutyTok EX (recvCell b (peer b c)) 0 false) := by
  unfold minted
  rw [bigSep_sep', bigSep_sep', bigSep_sep', bigSep_sep',
    bigSep_univ_equiv (swap b) (fun c : Dev nD => (dutyTok EX (barCell c) 0 b : sProp 𝕄)),
    bigSep_univ_equiv (swap b) (fun c : Dev nD => (dutyTok EX (recvCell b c) 0 false : sProp 𝕄))]
  exact BI.Entails.refl _

omit [FloatOps F] in
/-- A device's places and the exchanged rights are all it carries. -/
theorem carry (c : Dev nD) :
    iprop((bigSep Finset.univ fun k : Counter => atPos EX (kcell (c, k)) 0 ∅ 0)
        ∗ (dutyTok EX (barCell (peer false c)) 0 false ∗ dutyTok EX (sendCell false c) 0 false ∗ dutyTok EX (recvCell false (peer false c)) 0 false)
        ∗ (dutyTok EX (barCell (peer true c)) 0 true ∗ dutyTok EX (sendCell true c) 0 false ∗ dutyTok EX (recvCell true (peer true c)) 0 false))
      ⊢ (linear c : sProp 𝕄) := by
  rw [bigSep_counter]; unfold linear side
  iintro ⟨⟨A1, A2, A3, A4, A5⟩, ⟨B0, S0, V0⟩, B1, S1, V1⟩
  isplitl [A1 A2 A3 A4 S0 V0 S1 V1]
  · isplitl [A1 A3 S0 V0]
    · isplitl [A1]; · iexact A1
      isplitl [A3]; · iexact A3
      isplitl [S0] <;> iassumption
    isplitl [A2]; · iexact A2
    isplitl [A4]; · iexact A4
    isplitl [S1] <;> iassumption
  isplitl [A5]; · iexact A5
  isplitl [B0] <;> iassumption

omit [FloatOps F] in
/-- The records, known to all, go to every device; the places and rights to their holders. -/
theorem regroup :
    (bigSep Finset.univ fun c : Dev nD =>
        iprop((bigSep Finset.univ fun k : Counter => iprop(∃ κ : ℕ, cellInv EX (plan m ρ) κ (kcell (c, k)) ∗ reached EX (kcell (c, k)) 0))
          ∗ (bigSep Finset.univ fun k : Counter => atPos EX (kcell (c, k)) 0 ∅ 0) ∗ minted false c ∗ minted true c) : sProp 𝕄)
      ⊢ bigSep Finset.univ (ready m ρ) := by
  have hready (K : Dev nD × Counter → ℕ) : iprop(records m ρ K ∗ bigSep Finset.univ fun c : Dev nD => linear c)
      ⊢ (bigSep Finset.univ (ready m ρ) : sProp 𝕄) := by
    refine (sep_mono_left (BI.bigSep_of_persistent (Finset.univ : Finset (Dev nD)) (records m ρ K))).trans ?_
    rw [← bigSep_sep']
    have hc (c : Dev nD) : iprop(records m ρ K ∗ linear c) ⊢ (ready m ρ c : sProp 𝕄) := by
      unfold ready
      iintro H; iexists K; iexact H
    exact bigSep_mono fun c _ => hc c
  have hcarry : iprop((bigSep Finset.univ fun c : Dev nD => bigSep Finset.univ fun k : Counter => atPos EX (kcell (c, k)) 0 ∅ 0)
      ∗ (bigSep Finset.univ fun c : Dev nD => iprop(dutyTok EX (barCell (peer false c)) 0 false
          ∗ dutyTok EX (sendCell false c) 0 false ∗ dutyTok EX (recvCell false (peer false c)) 0 false))
      ∗ (bigSep Finset.univ fun c : Dev nD => iprop(dutyTok EX (barCell (peer true c)) 0 true
          ∗ dutyTok EX (sendCell true c) 0 false ∗ dutyTok EX (recvCell true (peer true c)) 0 false)))
      ⊢ (bigSep Finset.univ fun c : Dev nD => linear c : sProp 𝕄) := by
    rw [← bigSep_sep', ← bigSep_sep']
    exact bigSep_mono fun c _ => carry c
  rw [bigSep_sep', bigSep_sep', bigSep_sep',
    ← bigSep_univ_prod (fun ck : Dev nD × Counter => iprop(∃ κ : ℕ, cellInv EX (plan m ρ) κ (kcell ck) ∗ reached EX (kcell ck) 0))]
  iintro ⟨HI, Hat, H0, H1⟩
  ihave HK := (BI.bigSep_exists_pi Finset.univ
    (fun (ck : Dev nD × Counter) (κ : ℕ) => (iprop(cellInv EX (plan m ρ) κ (kcell ck) ∗ reached EX (kcell ck) 0) : sProp 𝕄))) $$ HI
  icases HK with ⟨%K, HI⟩
  ihave H0' := (swap_rights (F := F) false) $$ H0
  ihave H1' := (swap_rights (F := F) true) $$ H1
  iapply (hready K)
  isplitl [HI]; · unfold records; iexact HI
  iapply hcarry
  isplitl [Hat]; · iexact Hat
  isplitl [H0'] <;> iassumption

omit [FloatOps F] in
/-- All devices' counters put under the plan at once, and the rights exchanged. -/
theorem prepare : (bigSep Finset.univ fun c => iprop(Pipeline.ownSems0 (Ix := Unit) (Name := ℕ) (U := UU) (Lvl := ℕ) (Val := Elt F) (τ := τ) ownSem c
        ∗ unscopedSems0 c ∗ dealt m ρ c) : sProp 𝕄)
    ⊢ |={Set.univ}=> bigSep Finset.univ (ready m ρ) :=
  ((bigSep_mono fun c _ => put_up_all m ρ c).trans (bigSep_fupd _ _)).trans (BI.fupd_mono (regroup m ρ))

/-! ## The credit for what the peers owe -/

theorem tally_at (g g' : GSem nD τ sig) (n : ℕ) : (tallyAt g () n : CellTallies nD τ sig Unit) g' () = if g' = g then n else 0 := by
  rw [tallyAt_apply]
  by_cases h : g' = g
  · rw [if_pos ⟨h, rfl⟩, if_pos h]
  · rw [if_neg fun h' => h h'.1, if_neg h]

theorem at_bar (b : Bool) (c d : Dev nD) : barCell c = barCell (peer b d) ↔ d = peer b c := by
  constructor
  · intro h
    have h' : c = peer b d := congrArg (fun g : GSem nD τ sig => g.1.1) h
    rw [h', peer_peer]
  · rintro rfl
    rw [peer_peer]
theorem at_recv (b : Bool) (c d : Dev nD) : recvCell b c = recvCell b (peer b d) ↔ d = peer b c := by
  constructor
  · intro h
    have h' : c = peer b d := congrArg (fun g : GSem nD τ sig => g.1.1) h
    rw [h', peer_peer]
  · rintro rfl
    rw [peer_peer]
theorem bar_ne_recv (b : Bool) (c d : Dev nD) : ¬ barCell c = recvCell b d := fun h =>
  nomatch (congrArg Prod.snd h : (SemLoc.reg barS : SemLoc sig) = .dma (recvQ b))
theorem recv_ne_bar (b : Bool) (c d : Dev nD) : ¬ recvCell b c = barCell d := fun h => bar_ne_recv b d c h.symm
theorem near_ne_far (c d : Dev nD) : ¬ recvCell false c = recvCell true d := fun h =>
  absurd (congrArg Prod.snd h) (by decide : (SemLoc.dma (recvQ false) : SemLoc sig) ≠ .dma (recvQ true))
theorem far_ne_near (c d : Dev nD) : ¬ recvCell true c = recvCell false d := fun h => near_ne_far d c h.symm

/-- What device `d` owes device `c`: a unit at the barrier from each peer, -/
theorem owed_bar (c d : Dev nD) : oweAll d (barCell c) () = (if d = peer true c then 1 else 0) + if d = peer false c then 1 else 0 := by
  unfold oweAll oweFar oweCopies
  rw [Pi.add_apply, Finsupp.add_apply, Pi.add_apply, Finsupp.add_apply, Pi.add_apply, Finsupp.add_apply, tally_at, tally_at, tally_at, tally_at,
    if_neg (bar_ne_recv _ _ _), if_neg (bar_ne_recv _ _ _), Nat.zero_add]
  simp only [at_bar]
/-- a copy at each receive counter from the peer on its side. -/
theorem owed_recv (b : Bool) (c d : Dev nD) : oweAll d (recvCell b c) () = if d = peer b c then N else 0 := by
  unfold oweAll oweFar oweCopies
  rw [Pi.add_apply, Finsupp.add_apply, Pi.add_apply, Finsupp.add_apply, Pi.add_apply, Finsupp.add_apply, tally_at, tally_at, tally_at, tally_at,
    if_neg (recv_ne_bar _ _ _), if_neg (recv_ne_bar _ _ _), Nat.add_zero]
  cases b
  · rw [if_neg (near_ne_far _ _), Nat.zero_add]; exact if_congr (at_recv false c d) rfl rfl
  · rw [if_neg (far_ne_near _ _), Nat.add_zero]; exact if_congr (at_recv true c d) rfl rfl

theorem credit_bar (c : Dev nD) :
    tallyOn (barCell c) (launchCredit (Pipeline.owing oweAll) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar c d, Finset.sum_add_distrib,
    Finset.sum_ite_eq' Finset.univ (peer true c) fun _ => 1, Finset.sum_ite_eq' Finset.univ (peer false c) fun _ => 1,
    if_pos (Finset.mem_univ _), if_pos (Finset.mem_univ _)]
theorem credit_recv (b : Bool) (c : Dev nD) :
    tallyOn (recvCell b c) (launchCredit (Pipeline.owing oweAll) 0 (recvCell b c)) = (tallyAt (recvCell b c) () N : CellTallies nD τ sig Unit) := by
  unfold tallyAt
  refine congrArg _ (Finsupp.ext fun u => ?_)
  cases u
  rw [Pipeline.launchCredit_owing, Finsupp.single_eq_same, Finset.sum_congr rfl fun d _ => owed_recv b c d,
    Finset.sum_ite_eq' Finset.univ (peer b c) fun _ => N, if_pos (Finset.mem_univ _)]

omit [FloatOps F] in
/-- The launch's credit covers the three waits on the peers. -/
theorem credits_of_launch (c : Dev nD) : (Pipeline.launchCred oweAll c : sProp 𝕄) ⊢ credits c := by
  unfold Pipeline.launchCred credits
  refine (bigSep_subset (Finset.subset_univ {SemLoc.reg barS, SemLoc.dma (recvQ false), SemLoc.dma (recvQ true)})).trans ?_
  rw [bigSep_eq_bigSepL_of_eq [SemLoc.reg barS, SemLoc.dma (recvQ false), SemLoc.dma (recvQ true)] (by decide) (by decide),
    ← credit_bar, ← credit_recv, ← credit_recv]
  exact BI.Entails.refl _

/-! ## The run -/

omit [FloatOps F] in
theorem start_of_launch (c : Dev nD) :
    iprop(Pipeline.unscopedRestP Pipeline.Prefetch.none cfg0.spec c (fun b => m ((c : Thread nD τ).loc b)) ∗ levAts L lv
        ∗ Pipeline.launchCred oweAll c ∗ prngReg c (ρ c) ∗ ready m ρ c)
      ⊢ |={Set.univ}=> iprop(start m ρ c ∗ emp) := by
  iintro ⟨-, HL, Hc, -, HR⟩
  ihave Hc' := (credits_of_launch (F := F) c) $$ Hc
  imodintro
  unfold start ready
  isplitl
  · isplitl [HR]; · iexact HR
    isplitl [Hc'] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨H, -, -⟩; iexact H

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = quiet c from rfl, scopedRest0_eq, quiet_eq]
  iintro ⟨Hos, Hus⟩
  isplitl [Hus]; · iexact Hus
  isplitl [Hos]; · iexact Hos
  iempintro

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem full_share (c : Dev nD) (w : Fin cfg0.W) : (dats m ρ 0 c).share w = fullShare := by unfold Dat.share; split <;> rfl

/-- The arrays of device `c` after the run. -/
def final (c : Dev nD) (w : Fin cfg0.W) : Buf (Elt F) ((cfg0.win w).arr.view.loc (c : Thread nD τ)) := (dats m ρ 0 c).arrAt w cfg0.N

/-- Every fair execution on the four devices ends, with the final arrays in memory and every counter at zero. -/
theorem run_all : θ_run defs (onTc (τ := τ) (main (F := F))) (s₀ m ρ) (fun r =>
    (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := body_ok m ρ) (hne := block_pos0) (harr := arr_whole0) (hstage := stage_whole0) (hshare := full_share m ρ)
    (hdistinct := winFacts0.arr_inj)
    (O₀ := oweAll) (howed₀ := fun _ => rfl) (howedN := fun _ => rfl)
    (L := L) (lv := lv) (hL := L_none) (hwaits := stage_waits m ρ)
    (G := dealt m ρ) (G' := ready m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := prepare m ρ)
    (hA := fun _ _ => rfl) (hpf := fun _ k => k.elim0)
    (X := start m ρ) (Y := fun c => unscopedSems0 c) (Z := fun _ => iprop(emp))
    (hX := start_of_launch m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends as it was. -/
theorem final_in (c : Dev nD) : final m ρ c (0 : Fin 2) = m ((c : Thread nD τ).loc main_arg0) :=
  (dats (F := F) m ρ 0 c).arrAt_in (0 : Fin 2) rfl _

/-- The result array ends gathered. -/
theorem final_out (c : Dev nD) : final m ρ c (1 : Fin 2) = gathered m ρ c :=
  (dats (F := F) m ρ 0 c).arrAt_eq_of_after_last (1 : Fin 2) t0_0 (by decide +kernel) (gathered m ρ c) fun _ => rfl

end Cert.KernelIdeal.Exchange

end
-- ==== Proof.KernelIdealWhole.lean ====
/-
From the blocks to the whole array: what every device gathers is the global array of which each device held a block.
-/
module

public import proofs.«01_k».proof.Proof.KernelIdealLaunch
public import Idealize.ShloMosaic.Lib.Layout
public import Idealize.ShloMosaic.Lib.StableHlo.RunHlo

@[expose] public section

noncomputable section

namespace Cert.KernelIdeal.Exchange

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- Row `r` comes from a device whose column is the number of the block that `r` lies in. -/
theorem origin_col (c : Dev nD) (r : ℕ) (hr : r < 1024) : (origin c r).val % 2 = r / 512 := by
  have hn := peer_col false c
  have hf := peer_col true c
  unfold origin
  split
  · omega
  · split <;> omega

/-- The block that device `d` holds of a whole array: number `d % 2` along the rows. -/
abbrev blockOf (v : OIdx → Elt F .bf16) (d : Dev nD) : S512x512.Idx → Elt F .bf16 :=
  Layout.blockN ⟨2, ![512, 512]⟩ ⟨2, ![1024, 512]⟩ (Layout.meshBlock [2, 2] ![[1], []] d) v

omit [FloatOps F] in
/-- A place of device `d`'s block, read in the whole array. -/
theorem blockOf_pick (v : OIdx → Elt F .bf16) (d : Dev nD) (i : OIdx) (h : d.val % 2 = (i 0).val / 512) :
    blockOf v d (pick i) = v i := by
  refine congrArg v (funext fun a => Fin.ext ?_)
  rw [Layout.TilesN.idx_val]
  match a with
  | ⟨0, _⟩ =>
    show (d.val / 1 % 2 * 1 + 0) * 512 + (i 0).val % 512 = (i 0).val
    omega
  | ⟨1, _⟩ =>
    show 0 * 512 + (i 1).val = (i 1).val
    omega

omit [FloatOps F] in
/-- Gathering the blocks of a whole array gives the array, on every device. -/
theorem gather_blocks (v : OIdx → Elt F .bf16) (c : Dev nD) : gather (blockOf v) c = v := by
  funext i
  exact blockOf_pick v _ i (origin_col c _ (i 0).isLt)

/-- A device's staged block is its argument. -/
theorem staged_eq (c : Dev nD) : xstg m ρ c = m ((c : Thread nD τ).loc main_arg0) := by
  have first : ∀ a, win0_0.index (0 : Fin 1) a * main_arg0.ty.shape.size a = 0 := fun a => by fin_cases a <;> decide
  exact Memref.read_access_unit_zero (Elt F) main_arg0 (funext first) (fun a => by fin_cases a <;> decide) _

/-- If every device's argument is its block of one array, every device gathers that array. -/
theorem gathered_whole (v : OIdx → Elt F .bf16) (h : ∀ d : Dev nD, m ((d : Thread nD τ).loc main_arg0) = blockOf v d) (c : Dev nD) :
    gathered m ρ c = v := by
  have hx : (xstg m ρ : Dev nD → S512x512.Idx → Elt F .bf16) = blockOf v := funext fun d => (staged_eq m ρ d).trans (h d)
  unfold gathered
  rw [hx]
  exact gather_blocks v c

/-- The run leaves the argument alone and every counter at zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  θ_run_mono (run_all m ρ) fun r h => ⟨fun c => (h.1 c (0 : Fin 2)).trans (final_in m ρ c), h.2⟩

/-- From the blocks of one array, the run leaves the whole array as every device's result, and the arguments alone. -/
theorem run_value (v : OIdx → Elt F .bf16) (hv : ∀ d : Dev nD, m ((d : Thread nD τ).loc main_arg0) = blockOf v d) :
    θ_run defs (onTc (τ := τ) (main (F := F))) ⟨m, fun _ => 0, ρ⟩ (fun r => ∀ c : Dev nD,
      r.2.mem ((c : Thread nD τ).loc main_v1) = v
      ∧ r.2.mem ((c : Thread nD τ).loc main_arg0) = m ((c : Thread nD τ).loc main_arg0)) :=
  θ_run_mono (run_all m ρ) fun r h c =>
    ⟨((h.1 c (1 : Fin 2)).trans (final_out m ρ c)).trans (gathered_whole m ρ v hv c),
     (h.1 c (0 : Fin 2)).trans (final_in m ρ c)⟩

end Cert.KernelIdeal.Exchange

end
-- ==== Proof.ReferenceRun.lean ====
/-
The run of the reference, the identity on the whole array: its program performs no operation.
-/
module

public import proofs.«01_k».proof.Reference
public import Idealize.ShloMosaic.Lib.StableHlo.RunHlo
public import Idealize.ShloMosaic.Lib.Quiescent

@[expose] public section

noncomputable section

namespace Cert.Reference.Exchange

open Cert.Reference

open Idealize.ShloMosaic
open Idealize.SL.Sem

variable [Cert.Reference.Facts] {F : FTy → Type} [FloatOps F]

/-- The reference ends with its array as it was; it has no counter that could be off zero. -/
theorem run_same (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  θ_run_mono
    (StableHlo.run_hlo defs main (ops := []) (fun _ => StableHlo.IsSeq.nil) (by decide +kernel) (by decide +kernel) trivial
      (fun _ h => nomatch h) m ρ)
    fun r h => ⟨fun c => h c main_arg0, sem_eq_zero_of_no_sems (by decide) r.2⟩

end Cert.Reference.Exchange

end
-- ==== Proof.ReferenceIdealRun.lean ====
/-
The run of the reference, the identity on the whole array: its program performs no operation.
-/
module

public import proofs.«01_k».proof.ReferenceIdeal
public import Idealize.ShloMosaic.Lib.StableHlo.RunHlo
public import Idealize.ShloMosaic.Lib.Quiescent

@[expose] public section

noncomputable section

namespace Cert.ReferenceIdeal.Exchange

open Cert.ReferenceIdeal

open Idealize.ShloMosaic
open Idealize.SL.Sem

variable [Cert.ReferenceIdeal.Facts] {F : FTy → Type} [FloatOps F]

/-- The reference ends with its array as it was; it has no counter that could be off zero. -/
theorem run_same (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  θ_run_mono
    (StableHlo.run_hlo defs main (ops := []) (fun _ => StableHlo.IsSeq.nil) (by decide +kernel) (by decide +kernel) trivial
      (fun _ h => nomatch h) m ρ)
    fun r h => ⟨fun c => h c main_arg0, sem_eq_zero_of_no_sems (by decide) r.2⟩

end Cert.ReferenceIdeal.Exchange

end
-- ==== Proof.lean ====
/-
The claims, put together from the runs: the kernel's as printed and as idealized (KernelWhole, KernelIdealWhole) and the
reference's (ReferenceRun, ReferenceIdealRun). The value both sides end with is the reference's argument itself.
-/
module

public import proofs.«01_k».proof.Defs
public import proofs.«01_k».proof.Proof.KernelWhole
public import proofs.«01_k».proof.Proof.KernelIdealWhole
public import proofs.«01_k».proof.Proof.ReferenceRun
public import proofs.«01_k».proof.Proof.ReferenceIdealRun
public import proofs.«01_k».proof.Proof.Gen.ReferenceIdeal

@[expose] public section

noncomputable section

namespace Cert.Proof

open Idealize.ShloMosaic Idealize.SL.Sem

/-- The kernel runs, with its argument unchanged and all counters at zero. -/
theorem kernel_frame : Cert.quiescent_Kernel := fun m g _ => Kernel.Exchange.run_frame m g

/-- So does the idealized kernel. -/
theorem ideal_frame : Cert.quiescent_KernelIdeal := fun m g _ => KernelIdeal.Exchange.run_frame m g

/-- So does the reference, on exact values. -/
theorem reference_ideal_frame : Cert.quiescent_ReferenceIdeal := fun m g _ => ReferenceIdeal.Exchange.run_same m g

/-- The reference as printed states no side condition. -/
theorem reference_facts : Cert.Reference.Facts := {}

/-- The reference as printed runs in the same way, on bits. -/
theorem reference_frame : Cert.quiescent_Reference (hReference := reference_facts) := fun m g _ =>
  let _ := reference_facts
  Reference.Exchange.run_same m g

/-- From the blocks of the reference's array, every device's result is the reference's result, in exact values. -/
theorem same_value : Cert.algebraic_KernelIdeal_ReferenceIdeal := fun m g m' g' _ blocks =>
  ⟨_, KernelIdeal.Exchange.run_value m g _ blocks,
    θ_run_mono (ReferenceIdeal.Exchange.run_same m' g') fun _ h => ⟨h.1 0, h.1 0⟩⟩

/-- The same bit for bit, of the kernel and the reference as printed. -/
theorem same_bits : Cert.bitexact_Kernel_Reference (hReference := reference_facts) := fun m g m' g' _ blocks =>
  let _ := reference_facts
  ⟨_, Kernel.Exchange.run_value m g _ blocks,
    θ_run_mono (Reference.Exchange.run_same m' g') fun _ h => ⟨h.1 0, h.1 0⟩⟩

/-- All the claims. -/
theorem claim : Cert.Claim :=
  ⟨Cert.Kernel.Gen.facts, Cert.KernelIdeal.Gen.facts, Cert.ReferenceIdeal.Gen.facts, reference_facts,
    kernel_frame, ideal_frame, reference_ideal_frame, reference_frame, trivial, same_value, same_bits⟩

end Cert.Proof

end
